-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_order [hPre_finite_and_in_order : Cert.Pre_finite_and_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_and_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_and_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_order [hPre_finite_and_in_order : Cert.Pre_finite_and_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_and_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_and_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_in_order [hKernelIdeal : Cert.KernelIdeal.Facts] [hPre_finite_and_in_order : Cert.Pre_finite_and_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_in_order [hReferenceIdeal : Cert.ReferenceIdeal.Facts] [hPre_finite_and_in_order : Cert.Pre_finite_and_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_in_order [hKernelIdeal : Cert.KernelIdeal.Facts] [hReferenceIdeal : Cert.ReferenceIdeal.Facts] [hPre_finite_and_in_order : Cert.Pre_finite_and_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_1)) (v1 : (c : Dev Cert.KernelIdeal.nD) → Buf (Elt Ideal) ((c.tc : Thread Cert.KernelIdeal.nD Cert.KernelIdeal.τ).loc Cert.KernelIdeal.main_v47_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_1) = v0 c
          ∧ r.2.mem ((c.tc : Thread Cert.KernelIdeal.nD Cert.KernelIdeal.τ).loc Cert.KernelIdeal.main_v47_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_in_order : Cert.Pre_finite_and_in_order.Facts),
    quiescent_Kernel (hKernel := hKernel)
    ∧ quiescent_KernelIdeal (hKernelIdeal := hKernelIdeal)
    ∧ quiescent_KernelIdeal_pre_finite_and_in_order (hKernelIdeal := hKernelIdeal) (hPre_finite_and_in_order := hPre_finite_and_in_order)
    ∧ quiescent_ReferenceIdeal (hReferenceIdeal := hReferenceIdeal)
    ∧ quiescent_ReferenceIdeal_pre_finite_and_in_order (hReferenceIdeal := hReferenceIdeal) (hPre_finite_and_in_order := hPre_finite_and_in_order)
    ∧ preserves_Kernel_KernelIdeal
    ∧ algebraic_KernelIdeal_ReferenceIdeal_pre_finite_and_in_order (hKernelIdeal := hKernelIdeal) (hReferenceIdeal := hReferenceIdeal) (hPre_finite_and_in_order := hPre_finite_and_in_order)
-- ==== Pre_finite_and_in_order.lean ====
abbrev S16384x1024 : Shape := ⟨2, ![16384, 1024]⟩
abbrev S1000x1025 : Shape := ⟨2, ![1000, 1025]⟩
abbrev S1000 : Shape := ⟨1, ![1000]⟩
abbrev S_ : Shape := ⟨0, ![]⟩

class Facts : Prop where
  bcast_S_S16384x1024 : S_.BroadcastsInDim S16384x1024 (![] : Fin 0 → Fin S16384x1024.rank)
  bcast_S_S1000x1025 : S_.BroadcastsInDim S1000x1025 (![] : Fin 0 → Fin S1000x1025.rank)

variable [Facts]

def fn {F : FTy → Type} [FloatOps F] (main_arg0 : FVec F S16384x1024 .f32) (main_arg1 : FVec F S1000x1025 .f32) (main_arg2 : FVec F S1000x1025 .f32) (main_arg3 : IVec S1000 32) (main_arg4 : IVec S1000 32) : IVec S16384x1024 1 × IVec S1000x1025 1 × IVec S1000x1025 1 × IVec S1000 1 × IVec S1000 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1000x1025 .f32 := Host.absf main_arg1
  let main_cst_0 : FVec F S_ .f32 := constant S_ .f32 0x7F800000#32
  let main_v4 : FVec F S1000x1025 .f32 := broadcastInDim S1000x1025 ![] bcast_S_S1000x1025 main_cst_0
  let main_v5 : IVec S1000x1025 1 := cmpf .olt main_v3 main_v4
  let main_v6 : FVec F S1000x1025 .f32 := Host.absf main_arg2
  let main_cst_1 : FVec F S_ .f32 := constant S_ .f32 0x7F800000#32
  let main_v7 : FVec F S1000x1025 .f32 := broadcastInDim S1000x1025 ![] bcast_S_S1000x1025 main_cst_1
  let main_v8 : IVec S1000x1025 1 := cmpf .olt main_v6 main_v7
  let main_v9 : IVec S1000 32 := iotaInDim S1000 32 0
  let main_v10 : IVec S1000 1 := cmpi .eq main_arg3 main_v9
  let main_v11 : IVec S1000 32 := iotaInDim S1000 32 0
  let main_v12 : IVec S1000 1 := cmpi .eq main_arg4 main_v11
  (main_v2, main_v5, main_v8, main_v10, main_v12)
-- ==== Kernel.lean ====
abbrev S16384x1024 : Shape := ⟨2, ![16384, 1024]⟩
abbrev S1000x1025 : Shape := ⟨2, ![1000, 1025]⟩
abbrev S1000 : Shape := ⟨1, ![1000]⟩
abbrev S1000x1024 : Shape := ⟨2, ![1000, 1024]⟩
abbrev S1024x1000 : Shape := ⟨2, ![1024, 1000]⟩
abbrev S_ : Shape := ⟨0, ![]⟩
abbrev S1024x1024 : Shape := ⟨2, ![1024, 1024]⟩
abbrev S1000x1 : Shape := ⟨2, ![1000, 1]⟩
abbrev S1024 : Shape := ⟨1, ![1024]⟩
abbrev S1024x2048 : Shape := ⟨2, ![1024, 2048]⟩
abbrev S8x2048 : Shape := ⟨2, ![8, 2048]⟩
abbrev S2048 : Shape := ⟨1, ![2048]⟩
abbrev S1 : Shape := ⟨1, ![1]⟩
abbrev S16384 : Shape := ⟨1, ![16384]⟩
abbrev S16384x1 : Shape := ⟨2, ![16384, 1]⟩
abbrev S16384x128 : Shape := ⟨2, ![16384, 128]⟩
abbrev S256x1024 : Shape := ⟨2, ![256, 1024]⟩
abbrev S256x128 : Shape := ⟨2, ![256, 128]⟩
abbrev S256 : Shape := ⟨1, ![256]⟩
abbrev S256x2048 : Shape := ⟨2, ![256, 2048]⟩
abbrev S256x1 : Shape := ⟨2, ![256, 1]⟩
abbrev S1x2048 : Shape := ⟨2, ![1, 2048]⟩

abbrev nBuf : Space → Nat
  | .hbm => 78
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1000x1025, .f32⟩
  | .hbm, ⟨2, _⟩ => ⟨S1000x1025, .f32⟩
  | .hbm, ⟨3, _⟩ => ⟨S1000, .i32⟩
  | .hbm, ⟨4, _⟩ => ⟨S1000, .i32⟩
  | .hbm, ⟨5, _⟩ => ⟨S1000x1024, .f32⟩
  | .hbm, ⟨6, _⟩ => ⟨S1024x1000, .f32⟩
  | .hbm, ⟨7, _⟩ => ⟨S_, .i32⟩
  | .hbm, ⟨8, _⟩ => ⟨S_, .f32⟩
  | .hbm, ⟨9, _⟩ => ⟨S1024x1024, .f32⟩
  | .hbm, ⟨10, _⟩ => ⟨S1000x1, .f32⟩
  | .hbm, ⟨11, _⟩ => ⟨S1000, .f32⟩
  | .hbm, ⟨12, _⟩ => ⟨S_, .i32⟩
  | .hbm, ⟨13, _⟩ => ⟨S_, .f32⟩
  | .hbm, ⟨14, _⟩ => ⟨S1024, .f32⟩
  | .hbm, ⟨15, _⟩ => ⟨S1000x1025, .f32⟩
  | .hbm, ⟨16, _⟩ => ⟨S_, .f32⟩
  | .hbm, ⟨17, _⟩ => ⟨S1000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1000, .f32⟩
  | .hbm, ⟨23, _⟩ => ⟨S1000, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1000x1024, .f32⟩
  | .hbm, ⟨28, _⟩ => ⟨S1024x1000, .f32⟩
  | .hbm, ⟨29, _⟩ => ⟨S_, .i32⟩
  | .hbm, ⟨30, _⟩ => ⟨S_, .f32⟩
  | .hbm, ⟨31, _⟩ => ⟨S1024x1024, .f32⟩
  | .hbm, ⟨32, _⟩ => ⟨S1000x1, .f32⟩
  | .hbm, ⟨33, _⟩ => ⟨S1000, .f32⟩
  | .hbm, ⟨34, _⟩ => ⟨S_, .i32⟩
  | .hbm, ⟨35, _⟩ => ⟨S_, .f32⟩
  | .hbm, ⟨36, _⟩ => ⟨S1024, .f32⟩
  | .hbm, ⟨37, _⟩ => ⟨S1000x1025, .f32⟩
  | .hbm, ⟨38, _⟩ => ⟨S_, .f32⟩
  | .hbm, ⟨39, _⟩ => ⟨S1000, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1000, .f32⟩
  | .hbm, ⟨45, _⟩ => ⟨S1000, .f32⟩
  | .hbm, ⟨46, _⟩ => ⟨S_, .f32⟩
  | .hbm, ⟨47, _⟩ => ⟨S_, .f32⟩
  | .hbm, ⟨48, _⟩ => ⟨S1024, .f32⟩
  | .hbm, ⟨49, _⟩ => ⟨S1024x2048, .f32⟩
  | .hbm, ⟨50, _⟩ => ⟨S1024x2048, .bf16⟩
  | .hbm, ⟨51, _⟩ => ⟨S1024x2048, .f32⟩
  | .hbm, ⟨52, _⟩ => ⟨S1024x2048, .f32⟩
  | .hbm, ⟨53, _⟩ => ⟨S1024x2048, .bf16⟩
  | .hbm, ⟨54, _⟩ => ⟨S_, .f32⟩
  | .hbm, ⟨55, _⟩ => ⟨S8x2048, .f32⟩
  | .hbm, ⟨56, _⟩ => ⟨S2048, .f32⟩
  | .hbm, ⟨57, _⟩ => ⟨S_, .i32⟩
  | .hbm, ⟨58, _⟩ => ⟨S1, .i32⟩
  | .hbm, ⟨59, _⟩ => ⟨S8x2048, .f32⟩
  | .hbm, ⟨60, _⟩ => ⟨S2048, .f32⟩
  | .hbm, ⟨61, _⟩ => ⟨S_, .i32⟩
  | .hbm, ⟨62, _⟩ => ⟨S1, .i32⟩
  | .hbm, ⟨63, _⟩ => ⟨S8x2048, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S16384x1, .f32⟩
  | .hbm, ⟨75, _⟩ => ⟨S16384x128, .f32⟩
  | .hbm, ⟨76, _⟩ => ⟨S16384, .i32⟩
  | .hbm, ⟨77, _⟩ => ⟨S16384, .i32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S1024x2048, .bf16⟩
  | .local _ .vmem, ⟨4, _⟩ => ⟨S8x2048, .f32⟩
  | .local _ .vmem, ⟨5, _⟩ => ⟨S256x128, .f32⟩
  | .local _ .vmem, ⟨6, _⟩ => ⟨S256x128, .f32⟩
  | .local _ .vmem, ⟨7, _⟩ => ⟨S256, .i32⟩
  | .local _ .vmem, ⟨8, _⟩ => ⟨S256, .i32⟩
  | .local _ .vmem, ⟨9, _⟩ => ⟨S256, .i32⟩
  | .local _ .vmem, ⟨10, _⟩ => ⟨S256, .i32⟩
  | .local _ .vmem, ⟨11, _⟩ => ⟨S256x2048, .f32⟩
  | .local _ .vmem, ⟨12, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_call4_v0 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_cst_7 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_call5_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_12 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47_0 : Ref sig .tc := ⟨.hbm, 76, rfl⟩
abbrev main_v47_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c1_i32_11 : BitVec 32 := 1#32
  let v23 : BitVec 1 := Scalar.cmpi .eq v22 c1_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

def cc0_transform_6 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x1024 : Shape := ⟨2, ![16384, 1024]⟩
abbrev S1000x1025 : Shape := ⟨2, ![1000, 1025]⟩
abbrev S1000 : Shape := ⟨1, ![1000]⟩
abbrev S_ : Shape := ⟨0, ![]⟩
abbrev S16384x1 : Shape := ⟨2, ![16384, 1]⟩
abbrev S16384x1025 : Shape := ⟨2, ![16384, 1025]⟩
abbrev S16384 : Shape := ⟨1, ![16384]⟩
abbrev S1000x1 : Shape := ⟨2, ![1000, 1]⟩
abbrev S1 : Shape := ⟨1, ![1]⟩
abbrev S1x1 : Shape := ⟨2, ![1, 1]⟩
abbrev S1x1000 : Shape := ⟨2, ![1, 1000]⟩
abbrev S16384x1000 : Shape := ⟨2, ![16384, 1000]⟩
abbrev S1025x1000 : Shape := ⟨2, ![1025, 1000]⟩

abbrev nBuf : Space → Nat
  | .hbm => 159
  | .vmem => 0
  | .smem => 0
  | _ => 0

abbrev hbmTy0_0 (i : Nat) : BufTy := match i % 128 with
  | 0 => ⟨S16384x1024, .f32⟩
  | 1 => ⟨S1000x1025, .f32⟩
  | 2 => ⟨S1000x1025, .f32⟩
  | 3 => ⟨S1000, .i32⟩
  | 4 => ⟨S1000, .i32⟩
  | 5 => ⟨S_, .f32⟩
  | 6 => ⟨S16384x1, .f32⟩
  | 7 => ⟨S16384x1025, .f32⟩
  | 8 => ⟨S16384x1025, .f32⟩
  | 9 => ⟨S_, .f32⟩
  | 10 => ⟨S16384, .f32⟩
  | 11 => ⟨S16384x1, .f32⟩
  | 12 => ⟨S16384x1, .f32⟩
  | 13 => ⟨S16384x1025, .f32⟩
  | 14 => ⟨S16384x1025, .f32⟩
  | 15 => ⟨S_, .i32⟩
  | 16 => ⟨S1000, .i32⟩
  | 17 => ⟨S1000, .i1⟩
  | 18 => ⟨S_, .i32⟩
  | 19 => ⟨S1000, .i32⟩
  | 20 => ⟨S1000, .i32⟩
  | 21 => ⟨S1000, .i32⟩
  | 22 => ⟨S1000x1, .i32⟩
  | 23 => ⟨S1, .i32⟩
  | 24 => ⟨S_, .i32⟩
  | 25 => ⟨S1000x1, .i32⟩
  | 26 => ⟨S1000x1, .i1⟩
  | 27 => ⟨S1x1, .i32⟩
  | 28 => ⟨S1000x1, .i32⟩
  | 29 => ⟨S1000x1, .i1⟩
  | 30 => ⟨S1000x1, .i1⟩
  | 31 => ⟨S_, .i1⟩
  | 32 => ⟨S1000, .i1⟩
  | 33 => ⟨S1000x1025, .f32⟩
  | 34 => ⟨S1000x1025, .i1⟩
  | 35 => ⟨S_, .f32⟩
  | 36 => ⟨S1000x1025, .f32⟩
  | 37 => ⟨S1000x1025, .f32⟩
  | 38 => ⟨S16384x1025, .f32⟩
  | 39 => ⟨S_, .f32⟩
  | 40 => ⟨S16384, .f32⟩
  | 41 => ⟨S16384x1, .f32⟩
  | 42 => ⟨S1000x1025, .f32⟩
  | 43 => ⟨S_, .f32⟩
  | 44 => ⟨S1000, .f32⟩
  | 45 => ⟨S1000x1, .f32⟩
  | 46 => ⟨S1x1000, .f32⟩
  | 47 => ⟨S16384x1000, .f32⟩
  | 48 => ⟨S16384x1000, .f32⟩
  | 49 => ⟨S16384x1000, .f32⟩
  | 50 => ⟨S1025x1000, .f32⟩
  | 51 => ⟨S16384x1000, .f32⟩
  | 52 => ⟨S_, .f32⟩
  | 53 => ⟨S16384x1000, .f32⟩
  | 54 => ⟨S16384x1000, .f32⟩
  | 55 => ⟨S16384x1000, .f32⟩
  | 56 => ⟨S_, .f32⟩
  | 57 => ⟨S16384x1000, .f32⟩
  | 58 => ⟨S16384x1000, .f32⟩
  | 59 => ⟨S16384x1000, .f32⟩
  | 60 => ⟨S16384x1000, .i32⟩
  | 61 => ⟨S_, .f32⟩
  | 62 => ⟨S_, .i32⟩
  | 63 => ⟨S16384, .f32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S1, .i32⟩
  | 74 => ⟨S_, .i32⟩
  | 75 => ⟨S16384x1, .i32⟩
  | 76 => ⟨S16384x1, .i1⟩
  | 77 => ⟨S1x1, .i32⟩
  | 78 => ⟨S16384x1, .i32⟩
  | 79 => ⟨S16384x1, .i1⟩
  | 80 => ⟨S16384x1, .i1⟩
  | 81 => ⟨S_, .i1⟩
  | 82 => ⟨S16384, .i1⟩
  | 83 => ⟨S16384, .i32⟩
  | 84 => ⟨S_, .i32⟩
  | 85 => ⟨S16384, .i32⟩
  | 86 => ⟨S16384, .i32⟩
  | 87 => ⟨S_, .i32⟩
  | 88 => ⟨S1000, .i32⟩
  | 89 => ⟨S1000, .i1⟩
  | 90 => ⟨S_, .i32⟩
  | 91 => ⟨S1000, .i32⟩
  | 92 => ⟨S1000, .i32⟩
  | 93 => ⟨S1000, .i32⟩
  | 94 => ⟨S1000x1, .i32⟩
  | 95 => ⟨S1, .i32⟩
  | 96 => ⟨S_, .i32⟩
  | 97 => ⟨S1000x1, .i32⟩
  | 98 => ⟨S1000x1, .i1⟩
  | 99 => ⟨S1x1, .i32⟩
  | 100 => ⟨S1000x1, .i32⟩
  | 101 => ⟨S1000x1, .i1⟩
  | 102 => ⟨S1000x1, .i1⟩
  | 103 => ⟨S_, .i1⟩
  | 104 => ⟨S1000, .i1⟩
  | 105 => ⟨S1000x1025, .f32⟩
  | 106 => ⟨S1000x1025, .i1⟩
  | 107 => ⟨S_, .f32⟩
  | 108 => ⟨S1000x1025, .f32⟩
  | 109 => ⟨S1000x1025, .f32⟩
  | 110 => ⟨S16384x1025, .f32⟩
  | 111 => ⟨S_, .f32⟩
  | 112 => ⟨S16384, .f32⟩
  | 113 => ⟨S16384x1, .f32⟩
  | 114 => ⟨S1000x1025, .f32⟩
  | 115 => ⟨S_, .f32⟩
  | 116 => ⟨S1000, .f32⟩
  | 117 => ⟨S1000x1, .f32⟩
  | 118 => ⟨S1x1000, .f32⟩
  | 119 => ⟨S16384x1000, .f32⟩
  | 120 => ⟨S16384x1000, .f32⟩
  | 121 => ⟨S16384x1000, .f32⟩
  | 122 => ⟨S1025x1000, .f32⟩
  | 123 => ⟨S16384x1000, .f32⟩
  | 124 => ⟨S_, .f32⟩
  | 125 => ⟨S16384x1000, .f32⟩
  | 126 => ⟨S16384x1000, .f32⟩
  | 127 => ⟨S16384x1000, .f32⟩
  | _ => ⟨S16384x1024, .f32⟩

abbrev hbmTy0_1 (i : Nat) : BufTy := match i % 128 with
  | 0 => ⟨S_, .f32⟩
  | 1 => ⟨S16384x1000, .f32⟩
  | 2 => ⟨S16384x1000, .f32⟩
  | 3 => ⟨S16384x1000, .f32⟩
  | 4 => ⟨S16384x1000, .i32⟩
  | 5 => ⟨S_, .f32⟩
  | 6 => ⟨S_, .i32⟩
  | 7 => ⟨S16384, .f32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384, .i32⟩
  | 28 => ⟨S_, .i32⟩
  | 29 => ⟨S16384, .i32⟩
  | 30 => ⟨S16384, .i32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v5 : Ref sig .tc := ⟨.hbm, 37, rfl⟩
abbrev main_v6 : Ref sig .tc := ⟨.hbm, 38, rfl⟩
abbrev main_cst_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_2 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_call2_v0 : Ref sig .tc := ⟨.hbm, 60, rfl⟩
abbrev main_call2_cst : Ref sig .tc := ⟨.hbm, 61, rfl⟩
abbrev main_call2_c : Ref sig .tc := ⟨.hbm, 62, rfl⟩
abbrev main_call2_v1_0 : Ref sig .tc := ⟨.hbm, 63, rfl⟩
abbrev main_v24 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_c_4 : Ref sig .tc := ⟨.hbm, 84, rfl⟩
abbrev main_call3_v14 : Ref sig .tc := ⟨.hbm, 85, rfl⟩
abbrev main_v25 : Ref sig .tc := ⟨.hbm, 86, rfl⟩
abbrev main_call4_c : Ref sig .tc := ⟨.hbm, 87, rfl⟩
abbrev main_call4_v0 : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_c_1 : Ref sig .tc := ⟨.hbm, 95, rfl⟩
abbrev main_call4_c_2 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_3 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_call4_cst : Ref sig .tc := ⟨.hbm, 107, rfl⟩
abbrev main_call4_v15 : Ref sig .tc := ⟨.hbm, 108, rfl⟩
abbrev main_v26 : Ref sig .tc := ⟨.hbm, 109, rfl⟩
abbrev main_v27 : Ref sig .tc := ⟨.hbm, 110, rfl⟩
abbrev main_cst_4 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_cst_5 : Ref sig .tc := ⟨.hbm, 115, rfl⟩
abbrev main_v31 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_cst_6 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_cst_7 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_call5_v0 : Ref sig .tc := ⟨.hbm, 132, rfl⟩
abbrev main_call5_cst : Ref sig .tc := ⟨.hbm, 133, rfl⟩
abbrev main_call5_c : Ref sig .tc := ⟨.hbm, 134, rfl⟩
abbrev main_call5_v1_0 : Ref sig .tc := ⟨.hbm, 135, rfl⟩
abbrev main_v45 : Ref sig .tc := ⟨.hbm, 136, rfl⟩
abbrev main_call6_c : Ref sig .tc := ⟨.hbm, 137, rfl⟩
abbrev main_call6_v0 : Ref sig .tc := ⟨.hbm, 138, rfl⟩
abbrev main_call6_v1 : Ref sig .tc := ⟨.hbm, 139, rfl⟩
abbrev main_call6_c_0 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_v5 : Ref sig .tc := ⟨.hbm, 144, rfl⟩
abbrev main_call6_c_1 : Ref sig .tc := ⟨.hbm, 145, rfl⟩
abbrev main_call6_c_2 : Ref sig .tc := ⟨.hbm, 146, rfl⟩
abbrev main_call6_v6 : Ref sig .tc := ⟨.hbm, 147, rfl⟩
abbrev main_call6_v7 : Ref sig .tc := ⟨.hbm, 148, rfl⟩
abbrev main_call6_v8 : Ref sig .tc := ⟨.hbm, 149, rfl⟩
abbrev main_call6_v9 : Ref sig .tc := ⟨.hbm, 150, rfl⟩
abbrev main_call6_v10 : Ref sig .tc := ⟨.hbm, 151, rfl⟩
abbrev main_call6_v11 : Ref sig .tc := ⟨.hbm, 152, rfl⟩
abbrev main_call6_c_3 : Ref sig .tc := ⟨.hbm, 153, rfl⟩
abbrev main_call6_v12 : Ref sig .tc := ⟨.hbm, 154, rfl⟩
abbrev main_call6_v13 : Ref sig .tc := ⟨.hbm, 155, rfl⟩
abbrev main_call6_c_4 : Ref sig .tc := ⟨.hbm, 156, rfl⟩
abbrev main_call6_v14 : Ref sig .tc := ⟨.hbm, 157, rfl⟩
abbrev main_v46 : Ref sig .tc := ⟨.hbm, 158, rfl⟩

abbrev nD : Nat := 1
abbrev τ : Topo := Topo.v7x

variable {F : FTy → Type} [FloatOps F]
-- ==== Proof.KBody.lean ====
/-
  One run of the kernel body, with what it leaves named. At an even point the body writes the scores of the current
  block of queries to the first scratch buffer and, from the second, the two index vectors; at an odd point the two
  scratch buffers change places.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Two zero offsets. -/
theorem zeros2 : (![0, 0] : Fin 2 → Nat) = fun _ => 0 := funext fun a => by fin_cases a <;> rfl
/-- One zero offset. -/
theorem zeros1 : (![0] : Fin 1 → Nat) = fun _ => 0 := funext fun a => by fin_cases a <;> rfl

/-- The scores of one block of queries, from the five staged blocks: queries, table of centroids (high and low
    part), the table's two rows of numbers, half norms. -/
def score (x0 : Vec F S256x1024 .f32) (x1 x2 : Vec F S1024x2048 .bf16) (x3 : Vec F S8x2048 .f32) (x4 : Vec F S256x128 .f32) :
    Vec F S256x2048 .f32 :=
  k0_pay5 x0 x1 x2 x1 x4 (View.ld x3 (Rect.unit (s := S8x2048) ![0, 0] S1x2048.size inb_S8x2048_S1x2048_0_0))
    (View.ld x3 (Rect.unit (s := S8x2048) ![1, 0] S1x2048.size inb_S8x2048_S1x2048_1_0))

/-- The column numbers, 0 to 1023 in every row. -/
def cols : IVec S256x1024 32 := iota .tc S256x1024 32 [1] iota_S256x1024_d1_w32

/-- The index vector of the first table, from the scores of a block. -/
def firstLo (d : Vec F S256x2048 .f32) : IVec S256 32 := k0_pay1 cols (k0_pay6 d) (k0_pay7 d)

/-- The index vector of the second table, from the scores of a block. -/
def firstHi (d : Vec F S256x2048 .f32) : IVec S256 32 := k0_pay2 d cols

/-- The first branch is taken, at point `i`. -/
abbrev evenPt (i : grid0.Coords) : Prop := k0_cond1 i = 1#1
/-- The second branch is taken, at point `i`. -/
abbrev oddPt (i : grid0.Coords) : Prop := k0_cond2 i = 1#1

/-- A store of a whole buffer leaves its payload. -/
theorem stored_whole {κ : Kind} {sp : Space} {s : Shape} {e : EltTy} (v : View sig κ sp s e) (f : v.ty.Contents (Elt F))
    {off : Fin s.rank → Nat} (h : off = fun _ => 0) (inb : ∀ a, off a + s.size a ≤ s.size a) (w : s.Idx → Elt F e) :
    v.read (Elt F) (v.writes (Elt F) f [⟨Rect.unit off s.size inb, w⟩]) = w := by
  subst h
  rw [View.read_writes_eq_canon v f _ fun y => ⟨_, List.mem_singleton.mpr rfl, by
    rw [Rect.set_eq_univ_of_whole _ fun a => ⟨rfl, rfl, rfl⟩]; exact Finset.mem_univ _⟩]
  exact View.canon_cons_unit_zero rfl inb w []

set_option maxHeartbeats 2000000 in
/-- The body at an even point. -/
theorem run_even (c : Dev nD) (i : grid0.Coords) (arg1 : Memref sig .tc .vmem S256x1024 .f32) (harg1 : arg1.IsWhole) (arg2 : Memref sig .tc .vmem S1024x2048 .bf16) (harg2 : arg2.IsWhole) (arg3 : Memref sig .tc .vmem S1024x2048 .bf16) (harg3 : arg3.IsWhole) (arg4 : Memref sig .tc .vmem S8x2048 .f32) (harg4 : arg4.IsWhole) (arg5 : Memref sig .tc .vmem S256x128 .f32) (harg5 : arg5.IsWhole) (arg6 : Memref sig .tc .vmem S256 .i32) (harg6 : arg6.IsWhole) (arg7 : Memref sig .tc .vmem S256 .i32) (harg7 : arg7.IsWhole) (arg8 : Memref sig .tc .vmem S256x2048 .f32) (harg8 : arg8.IsWhole) (arg9 : Memref sig .tc .vmem S256x2048 .f32) (harg9 : arg9.IsWhole)
    (hc0 : evenPt i) (hc1 : ¬oddPt i)
    (x0 : Vec F S256x1024 .f32) (x1 : Vec F S1024x2048 .bf16) (x2 : Vec F S1024x2048 .bf16) (x3 : Vec F S8x2048 .f32) (x4 : Vec F S256x128 .f32)
    (dn : Vec F S256x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare dn
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (firstLo dn) ∗ owns (c : Thread nD τ) arg7 fullShare (firstHi dn)
            ∗ owns (c : Thread nD τ) arg8 fullShare (score x0 x1 x2 x3 x4) ∗ owns (c : Thread nD τ) arg9 fullShare dn) -∗ K ⟨⟩))
      ⊢ wp frame (wpE (defs₀ (F := F)) Variants.none c none) E (cc0__nc_kernel i arg1 harg1 arg2 harg2 arg3 harg3 arg4 harg4 arg5 harg5 arg6 harg6 arg7 harg7 arg8 harg8 arg9 harg9) K := by
  simp only [cc0__nc_kernel_eq_skeleton]; unfold cc0__nc_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    refine (stored_whole (s := S256) _ _ zeros1 _ _).trans ?_
    simp only [View.readAt_eq_ld, harg9.read_unread, View.ld_unit_zero (S := S256x2048) zeros2]
    rfl
  isplitl [H6]
  · iexists _; isplitr; swap; · iexact H6
    ipureintro
    sl_unfold_words
    refine (stored_whole (s := S256) _ _ zeros1 _ _).trans ?_
    simp only [View.readAt_eq_ld, harg9.read_unread, View.ld_unit_zero (S := S256x2048) zeros2]
    rfl
  isplitl [HS0]
  · iexists _; isplitr; swap; · iexact HS0
    ipureintro
    sl_unfold_words
    refine (stored_whole (s := S256x2048) _ _ zeros2 _ _).trans ?_
    simp only [View.readAt_eq_ld, harg1.read_unread, harg2.read_unread, harg3.read_unread, harg4.read_unread, harg5.read_unread,
      View.ld_unit_zero (S := S256x1024) zeros2, View.ld_unit_zero (S := S1024x2048) zeros2, View.ld_unit_zero (S := S256x128) zeros2]
    rfl
  iexists _; isplitr; swap; · iexact HS1
  ipureintro; exact harg9.read_unread _

set_option maxHeartbeats 2000000 in
/-- The body at an odd point. -/
theorem run_odd (c : Dev nD) (i : grid0.Coords) (arg1 : Memref sig .tc .vmem S256x1024 .f32) (harg1 : arg1.IsWhole) (arg2 : Memref sig .tc .vmem S1024x2048 .bf16) (harg2 : arg2.IsWhole) (arg3 : Memref sig .tc .vmem S1024x2048 .bf16) (harg3 : arg3.IsWhole) (arg4 : Memref sig .tc .vmem S8x2048 .f32) (harg4 : arg4.IsWhole) (arg5 : Memref sig .tc .vmem S256x128 .f32) (harg5 : arg5.IsWhole) (arg6 : Memref sig .tc .vmem S256 .i32) (harg6 : arg6.IsWhole) (arg7 : Memref sig .tc .vmem S256 .i32) (harg7 : arg7.IsWhole) (arg8 : Memref sig .tc .vmem S256x2048 .f32) (harg8 : arg8.IsWhole) (arg9 : Memref sig .tc .vmem S256x2048 .f32) (harg9 : arg9.IsWhole)
    (hc0 : ¬evenPt i) (hc1 : oddPt i)
    (x0 : Vec F S256x1024 .f32) (x1 : Vec F S1024x2048 .bf16) (x2 : Vec F S1024x2048 .bf16) (x3 : Vec F S8x2048 .f32) (x4 : Vec F S256x128 .f32)
    (dn : Vec F S256x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare dn ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (firstLo dn) ∗ owns (c : Thread nD τ) arg7 fullShare (firstHi dn)
            ∗ owns (c : Thread nD τ) arg8 fullShare dn ∗ owns (c : Thread nD τ) arg9 fullShare (score x0 x1 x2 x3 x4)) -∗ K ⟨⟩))
      ⊢ wp frame (wpE (defs₀ (F := F)) Variants.none c none) E (cc0__nc_kernel i arg1 harg1 arg2 harg2 arg3 harg3 arg4 harg4 arg5 harg5 arg6 harg6 arg7 harg7 arg8 harg8 arg9 harg9) K := by
  simp only [cc0__nc_kernel_eq_skeleton]; unfold cc0__nc_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    refine (stored_whole (s := S256) _ _ zeros1 _ _).trans ?_
    simp only [View.readAt_eq_ld, harg8.read_unread, View.ld_unit_zero (S := S256x2048) zeros2]
    rfl
  isplitl [H6]
  · iexists _; isplitr; swap; · iexact H6
    ipureintro
    sl_unfold_words
    refine (stored_whole (s := S256) _ _ zeros1 _ _).trans ?_
    simp only [View.readAt_eq_ld, harg8.read_unread, View.ld_unit_zero (S := S256x2048) zeros2]
    rfl
  isplitl [HS0]
  · iexists _; isplitr; · ipureintro; exact harg8.read_unread _
    iexact HS0
  iexists _; isplitr; swap; · iexact HS1
  ipureintro
  sl_unfold_words
  refine (stored_whole (s := S256x2048) _ _ zeros2 _ _).trans ?_
  simp only [View.readAt_eq_ld, harg1.read_unread, harg2.read_unread, harg3.read_unread, harg4.read_unread, harg5.read_unread,
    View.ld_unit_zero (S := S256x1024) zeros2, View.ld_unit_zero (S := S1024x2048) zeros2, View.ld_unit_zero (S := S256x128) zeros2]
  rfl

end Cert.KernelIdeal.Hand

end
-- ==== Proof.KFrame.lean ====
/-
  The kernel's launch with its outputs named. A block of queries is scored at one point and read one point later, from the
  scratch buffer the scores were left in, so the invariant says what one of the two buffers holds at each point. At the
  first point the body reads a buffer nothing wrote: what it stores there is not named, and is never written back.
-/
module

public import proofs.«01_k».proof.Proof.KBody
public import proofs.«01_k».proof.Proof.Gen.KernelIdeal.Frame
public import Idealize.ShloMosaic.Lib.Claim
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem even_iff : ∀ t : Fin cfg0.N, evenPt (grid0.coords t) ↔ t.val % 2 = 0 :=
  (by decide +kernel : ∀ t : Fin grid0.N, evenPt (grid0.coords t) ↔ t.val % 2 = 0)
theorem odd_iff : ∀ t : Fin cfg0.N, oddPt (grid0.coords t) ↔ t.val % 2 = 1 :=
  (by decide +kernel : ∀ t : Fin grid0.N, oddPt (grid0.coords t) ↔ t.val % 2 = 1)

/-- Window 0's staging buffer at a point. -/
abbrev buf0 (t : Fin cfg0.N) : Memref sig .tc .vmem S256x1024 .f32 := win0_0.stage (cfg0.slots t 0)
/-- Window 1's staging buffer at a point. -/
abbrev buf1 (t : Fin cfg0.N) : Memref sig .tc .vmem S1024x2048 .bf16 := win0_1.stage (cfg0.slots t 1)
/-- Window 2's staging buffer at a point. -/
abbrev buf2 (t : Fin cfg0.N) : Memref sig .tc .vmem S1024x2048 .bf16 := win0_2.stage (cfg0.slots t 2)
/-- Window 3's staging buffer at a point. -/
abbrev buf3 (t : Fin cfg0.N) : Memref sig .tc .vmem S8x2048 .f32 := win0_3.stage (cfg0.slots t 3)
/-- Window 4's staging buffer at a point. -/
abbrev buf4 (t : Fin cfg0.N) : Memref sig .tc .vmem S256x128 .f32 := win0_4.stage (cfg0.slots t 4)
/-- Window 5's staging buffer at a point. -/
abbrev buf5 (t : Fin cfg0.N) : Memref sig .tc .vmem S256 .i32 := win0_5.stage (cfg0.slots t 5)
/-- Window 6's staging buffer at a point. -/
abbrev buf6 (t : Fin cfg0.N) : Memref sig .tc .vmem S256 .i32 := win0_6.stage (cfg0.slots t 6)
/-- The two scratch buffers. -/
abbrev scr0 : Memref sig .tc .vmem S256x2048 .f32 := Memref.whole cc0_scratch0
abbrev scr1 : Memref sig .tc .vmem S256x2048 .f32 := Memref.whole cc0_scratch1

/-- What is carried over the whole launch: the scratch buffers and the generator register, at some contents. -/
theorem carried_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The proof data -/

/-- The scores of the block of queries staged at point `t`. -/
def scored (c : Dev nD) (t : Fin cfg0.N) : Vec F S256x2048 .f32 :=
  score (iblk m c 0 t) (iblk m c 1 t) (iblk m c 2 t) (iblk m c 3 t) (iblk m c 4 t)

/-- Before point `n`: one scratch buffer (the first for odd `n`) holds the scores of the block before. -/
def held (c : Dev nD) (n : ℕ) : sProp 𝕄 :=
  iprop(iprop((∃ d, ⌜∀ s : Fin cfg0.N, s.val + 1 = n → n % 2 = 1 → d = scored m c s⌝ ∗ owns (c : Thread nD τ) scr0 fullShare d)
      ∗ (∃ d, ⌜∀ s : Fin cfg0.N, s.val + 1 = n → n % 2 = 0 → d = scored m c s⌝ ∗ owns (c : Thread nD τ) scr1 fullShare d))
    ∗ (∃ r, prngReg c r))

/-- The windows whose contents are named by a predicate. -/
def outs : Fin 7 → Bool := fun w => w.val == 5 || w.val == 6

/-- What the body leaves in the two outputs at point `t`: the indices of the block before. -/
def left (c : Dev nD) (w : Fin cfg0.W) (t : Fin cfg0.N) (X : (cfg0.win w).block.Idx → Elt F (cfg0.win w).elt) : Prop :=
  match w with
  | ⟨5, _⟩ => ∀ s : Fin cfg0.N, s.val + 1 = t.val → X = firstLo (scored m c s)
  | ⟨6, _⟩ => ∀ s : Fin cfg0.N, s.val + 1 = t.val → X = firstHi (scored m c s)
  | _ => True

/-- The arrays as the launch finds them, the inputs' blocks, and the invariant. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ n := held m c n.val
  q _ := fullShare
  owed _ := 0

theorem A_eq (c : Dev nD) (w : Fin cfg0.W) : (dats m c).A w = V m c (Pipeline.arrRef spec0 w) := by
  dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d
theorem before_4 (c : Dev nD) (t : Fin cfg0.N) (d) : (dats m c).before 4 t d = iblk m c 4 t :=
  before0_4_of m (dats m c) (A_eq m c 4) (after_4 m c) t d
theorem leaves_0 (c : Dev nD) (t : Fin cfg0.N) :
    (dats m c).leavesExact 0 t = owns (c : Thread nD τ) (buf0 t) fullShare (iblk m c 0 t) := by
  unfold Dat.leavesExact; rw [show cfg0.idle 0 (grid0.coords t) = false from rfl, after_0]
theorem leaves_1 (c : Dev nD) (t : Fin cfg0.N) :
    (dats m c).leavesExact 1 t = owns (c : Thread nD τ) (buf1 t) fullShare (iblk m c 1 t) := by
  unfold Dat.leavesExact; rw [show cfg0.idle 1 (grid0.coords t) = false from rfl, after_1]
theorem leaves_2 (c : Dev nD) (t : Fin cfg0.N) :
    (dats m c).leavesExact 2 t = owns (c : Thread nD τ) (buf2 t) fullShare (iblk m c 2 t) := by
  unfold Dat.leavesExact; rw [show cfg0.idle 2 (grid0.coords t) = false from rfl, after_2]
theorem leaves_3 (c : Dev nD) (t : Fin cfg0.N) :
    (dats m c).leavesExact 3 t = owns (c : Thread nD τ) (buf3 t) fullShare (iblk m c 3 t) := by
  unfold Dat.leavesExact; rw [show cfg0.idle 3 (grid0.coords t) = false from rfl, after_3]
theorem leaves_4 (c : Dev nD) (t : Fin cfg0.N) :
    (dats m c).leavesExact 4 t = owns (c : Thread nD τ) (buf4 t) fullShare (iblk m c 4 t) := by
  unfold Dat.leavesExact; rw [show cfg0.idle 4 (grid0.coords t) = false from rfl, after_4]

/-- The data read with the outputs held to `left`. -/
abbrev rdats (c : Dev nD) : RDat τ (Elt F) Unit ℕ (UR sig nD τ) ℕ cfg0 c := (dats m c).toRRel outs (left m c)

/-! ## The body at a point -/

/-- What the body is given at point `t`, -/
def bodyPre (c : Dev nD) (t : Fin cfg0.N) : sProp 𝕄 :=
  iprop(held m c t.val ∗ (dats m c).owesAt () t.castSucc
    ∗ (∃ d, owns (c : Thread nD τ) (buf0 t) fullShare ((dats m c).before 0 t d))
    ∗ (∃ d, owns (c : Thread nD τ) (buf1 t) fullShare ((dats m c).before 1 t d))
    ∗ (∃ d, owns (c : Thread nD τ) (buf2 t) fullShare ((dats m c).before 2 t d))
    ∗ (∃ d, owns (c : Thread nD τ) (buf3 t) fullShare ((dats m c).before 3 t d))
    ∗ (∃ d, owns (c : Thread nD τ) (buf4 t) fullShare ((dats m c).before 4 t d))
    ∗ (∃ Y, ⌜(rdats m c).Finds 5 t Y⌝ ∗ owns (c : Thread nD τ) (buf5 t) fullShare Y)
    ∗ (∃ Y, ⌜(rdats m c).Finds 6 t Y⌝ ∗ owns (c : Thread nD τ) (buf6 t) fullShare Y))

/-- and what it gives back. -/
def bodyPost (c : Dev nD) (t : Fin cfg0.N) : sProp 𝕄 :=
  iprop(held m c (t.val + 1) ∗ (dats m c).owesAt () t.succ
    ∗ (dats m c).leavesExact 0 t
    ∗ (dats m c).leavesExact 1 t
    ∗ (dats m c).leavesExact 2 t
    ∗ (dats m c).leavesExact 3 t
    ∗ (dats m c).leavesExact 4 t
    ∗ (∃ X, ⌜left m c 5 t X⌝ ∗ owns (c : Thread nD τ) (buf5 t) fullShare X)
    ∗ (∃ X, ⌜left m c 6 t X⌝ ∗ owns (c : Thread nD τ) (buf6 t) fullShare X))

set_option maxHeartbeats 1600000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0 held
  simp only [before_0, before_1, before_2, before_3, before_4, leaves_0, leaves_1, leaves_2, leaves_3, leaves_4]
  rw [show (dats m c).owesAt () t.succ = (dats m c).owesAt () t.castSucc from rfl]
  rcases Nat.mod_two_eq_zero_or_one t.val with h | h
  · iintro ⟨⟨⟨⟨%g0, %hg0, HS0⟩, ⟨%g1, %hg1, HS1⟩⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (run_even c (grid0.coords t) _ _ _ _ _ _ _ _ _ _ _ _ _ _ _ _ _ _ ((even_iff t).mpr h) (fun h1 => absurd ((odd_iff t).mp h1) (by omega))
      (iblk m c 0 t) (iblk m c 1 t) (iblk m c 2 t) (iblk m c 3 t) (iblk m c 4 t) g1 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexists _; iexact HS0
    isplitl [HS1]; · iexact HS1
    iintro ⟨H0, H1, H2, H3, H4, H5, H6, HS0, HS1⟩
    isplitl [HS0 HS1 Hg]
    · isplitl [HS0 HS1]
      · isplitl [HS0]
        · iexists _; isplitr; swap; · iexact HS0
          ipureintro; intro s hs _; obtain rfl : s = t := Fin.ext (by omega); rfl
        iexists _; isplitr; swap; · iexact HS1
        ipureintro; intro s hs hm; exact absurd hm (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; intro s hs; rw [hg1 s hs (by omega)]
    iexists _; isplitr; swap; · iexact H6
    ipureintro; intro s hs; rw [hg1 s hs (by omega)]
  · iintro ⟨⟨⟨⟨%g0, %hg0, HS0⟩, ⟨%g1, %hg1, HS1⟩⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (run_odd c (grid0.coords t) _ _ _ _ _ _ _ _ _ _ _ _ _ _ _ _ _ _ (fun h0 => absurd ((even_iff t).mp h0) (by omega)) ((odd_iff t).mpr h)
      (iblk m c 0 t) (iblk m c 1 t) (iblk m c 2 t) (iblk m c 3 t) (iblk m c 4 t) g0 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexists _; iexact HS1
    iintro ⟨H0, H1, H2, H3, H4, H5, H6, HS0, HS1⟩
    isplitl [HS0 HS1 Hg]
    · isplitl [HS0 HS1]
      · isplitl [HS0]
        · iexists _; isplitr; swap; · iexact HS0
          ipureintro; intro s hs hm; exact absurd hm (by omega)
        iexists _; isplitr; swap; · iexact HS1
        ipureintro; intro s hs _; obtain rfl : s = t := Fin.ext (by omega); rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; intro s hs; rw [hg0 s hs (by omega)]
    iexists _; isplitr; swap; · iexact H6
    ipureintro; intro s hs; rw [hg0 s hs (by omega)]

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m c) (defs₀ (F := F)) Variants.none () Set.univ outs (left m c) := fun t => by
  rw [bigSep_W0, bigSep_W0, body_row]
  exact triple_restated (body_sound m c t) rfl .rfl fun _ => .rfl

/-! ## The run -/

/-- The scratch buffers and the register, at some contents, are what is carried before the first point. -/
theorem carried_in (c : Dev nD) : (Pipeline.ΦA spec0 c : sProp 𝕄) ⊢ held m c 0 := by
  rw [carried_eq]; unfold held
  iintro ⟨⟨⟨%d0, H0⟩, ⟨%d1, H1⟩⟩, Hg⟩
  isplitl [H0 H1]
  · isplitl [H0]
    · iexists d0; isplitr; swap; · iexact H0
      ipureintro; intro s hs; omega
    iexists d1; isplitr; swap; · iexact H1
    ipureintro; intro s hs; omega
  iexact Hg

/-- What is carried, its contents forgotten. -/
theorem carried_out (c : Dev nD) (n : ℕ) : held m c n ⊢ (Pipeline.ΦA spec0 c : sProp 𝕄) := by
  rw [carried_eq]; unfold held
  iintro ⟨⟨⟨%d0, -, H0⟩, ⟨%d1, -, H1⟩⟩, Hg⟩
  isplitl [H0 H1]
  · isplitl [H0]
    · iexists d0; iexact H0
    iexists d1; iexact H1
  iexact Hg

set_option backward.isDefEq.respectTransparency.types false in
/-- The launch: every run ends, with every array as the data name it and every counter at zero. -/
theorem run_post : θ_run defs (onTc (τ := τ) (main (F := F))) (s₀ m ρ)
    (fun r => RDat.FramePost (cfgs 0) (fun c => rdats m c) (V m) r ∧ r.2.sem = fun _ => 0) :=
  RDat.θ_run_frame_track (Q' := _) cfgs (0 : Fin 1) launch0 defs₀ Variants.none (fun c => rdats m c) m ρ main
    (hbody := fun c => (body_obligation m c).toRRel) (hshare := fun c => (dats m c).share_full fun _ => rfl)
    (howed := fun _ _ => rfl) (V := V m) (hmain := hmain m Variants.none) (hA := A_eq m)
    (hin := fun c => carried_in m c) (hout := fun c => carried_out m c _)

/-- The frame: the arguments are as they were, and every counter is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_post m ρ)

end Cert.KernelIdeal.Hand

end
-- ==== Proof.KOut.lean ====
/-
  The kernel's two result arrays as functions of the scores: element `256 b + r` is the index the score block of point `b`
  gives at row `r`, which the body of point `b + 1` stored and that point wrote back.
-/
module

public import proofs.«01_k».proof.Proof.KFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat RDat Cfg Window)

variable {F : FTy → Type} [FloatOps F]
variable (m : (ℓ : Loc nD τ sig) → Buf (Elt F) ℓ) (ρ : Dev nD → PrngReg)

/-- The point at which query `y`'s block is scored. -/
def pointOf (y : S16384.Idx) : Fin cfg0.N := ⟨(y 0).val / 256, by
  have h : (y 0).val < 16384 := (y 0).isLt
  rw [show cfg0.N = 65 from N_0]; omega⟩

/-- Query `y`'s row in its block. -/
def rowOf (y : S16384.Idx) : S256.Idx := fun a => ⟨(y 0).val % 256, by
  match a with
  | 0 => exact Nat.mod_lt _ (by decide)⟩

/-- The first result array. -/
def loOut (c : Dev nD) : IVec S16384 32 := fun y => firstLo (scored m c (pointOf y)) (rowOf y)
/-- The second. -/
def hiOut (c : Dev nD) : IVec S16384 32 := fun y => firstHi (scored m c (pointOf y)) (rowOf y)

/-- A point that writes its outputs back is not the first. -/
theorem flush_pos5 : ∀ t : Fin cfg0.N, (cfg0.win 5).flush t = true → 0 < t.val := by decide +kernel
theorem flush_pos6 : ∀ t : Fin cfg0.N, (cfg0.win 6).flush t = true → 0 < t.val := by decide +kernel

/-- The block of an output window at a point is that of the point before. -/
theorem index5 : ∀ t : Fin cfg0.N, win0_5.index t 0 = t.val - 1 := by decide +kernel
theorem index6 : ∀ t : Fin cfg0.N, win0_6.index t 0 = t.val - 1 := by decide +kernel

/-- The array index an index of an output's block sits at, taken apart again. -/
theorem point_row {z : S16384.Idx} {y : S256.Idx} {t s : Fin cfg0.N} (hs : s.val + 1 = t.val)
    (h : (z 0).val = (t.val - 1) * 256 + (y 0).val) : pointOf z = s ∧ rowOf z = y := by
  have hy : (y 0).val < 256 := (y 0).isLt
  refine ⟨Fin.ext ?_, funext fun a => ?_⟩
  · show (z 0).val / 256 = s.val
    omega
  · obtain rfl : a = 0 := Subsingleton.elim _ _
    refine Fin.ext ?_
    show (z 0).val % 256 = (y 0).val
    omega

theorem results (r : PUnit × MemSt nD τ sig (Elt F))
    (h : RDat.FramePost (cfgs 0) (fun c => rdats m c) (V m) r) (c : Dev nD) :
    r.2.mem ((c.tc : Thread nD τ).loc main_v47_0) = loOut m c
      ∧ r.2.mem ((c.tc : Thread nD τ).loc main_v47_1) = hiOut m c := by
  obtain ⟨after, hL, hA⟩ := RDat.FramePost.exists_exact h c
  refine ⟨(hA 5).trans ?_, (hA 6).trans ?_⟩
  · refine ((rdats m c).withAfter after).arrAt_eq_of_covers 5 _ (by decide +kernel) fun t hf y => ?_
    have hl := (dats m c).toRRel_leaves (w := 5) rfl (hL 5 t hf)
    have ht := flush_pos5 t hf
    blk_simp
    have hz : (((win0_5.blk t).view.emb y) 0).val = (t.val - 1) * 256 + (y 0).val := by
      blk_simp; rw [index5]
    obtain ⟨hp, hr⟩ := point_row (s := ⟨t.val - 1, by omega⟩) (t := t) (y := y) (show t.val - 1 + 1 = t.val by omega) hz
    show after 5 t y = firstLo (scored m c (pointOf _)) (rowOf _)
    rw [hp, hr, hl ⟨t.val - 1, by omega⟩ (show t.val - 1 + 1 = t.val by omega)]
  · refine ((rdats m c).withAfter after).arrAt_eq_of_covers 6 _ (by decide +kernel) fun t hf y => ?_
    have hl := (dats m c).toRRel_leaves (w := 6) rfl (hL 6 t hf)
    have ht := flush_pos6 t hf
    blk_simp
    have hz : (((win0_6.blk t).view.emb y) 0).val = (t.val - 1) * 256 + (y 0).val := by
      blk_simp; rw [index6]
    obtain ⟨hp, hr⟩ := point_row (s := ⟨t.val - 1, by omega⟩) (t := t) (y := y) (show t.val - 1 + 1 = t.val by omega) hz
    show after 6 t y = firstHi (scored m c (pointOf _)) (rowOf _)
    rw [hp, hr, hl ⟨t.val - 1, by omega⟩ (show t.val - 1 + 1 = t.val by omega)]

end Cert.KernelIdeal.Hand

end
-- ==== Proof.KHost.lean ====
/-
  What the kernel's region finds in its five input arrays: the queries as launched, the two tables' columns side by side
  (rounded, and what the rounding left), two rows of numbers per column, and half of each query's length.
-/
module

public import proofs.«01_k».proof.Proof.KOut
public import Idealize.ShloMosaic.Lib.StableHlo.Run
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-- A table's rows without their last entries, as columns, and 24 columns of zeros after them. -/
def columns (a : FVec F S1000x1025 .f32) : FVec F S1024x1024 .f32 :=
  pad S1024x1024 ![0, 0] ![0, 24] ![0, 0]
    (transpose S1024x1000 [1, 0] (extractStridedSlice S1000x1024 ![0, 0] a slices_S1000x1025_S1000x1024_0_0) transposes_S1000x1024_S1024x1000_1_0)
    (sitofp .f32 (constantI S_ 32 0#32)) pads_S1024x1000_S1024x1024_000_0240 h_S_

/-- The last entries of a table's rows, and 24 zeros after them. -/
def lasts (a : FVec F S1000x1025 .f32) : FVec F S1024 .f32 :=
  pad S1024 ![0] ![24] ![0]
    (shapeCast S1000 (extractStridedSlice S1000x1 ![0, 1024] a slices_S1000x1025_S1000x1_0_1024) shapeCasts_S1000x1_S1000)
    (sitofp .f32 (constantI S_ 32 0#32)) pads_S1000_S1024_0240 h_S_

/-- The sums of squares of a table's rows. -/
def squares (a : FVec F S1000x1025 .f32) : FVec F S1000 .f32 :=
  Host.reduceAdd (mulf a a) (constant S_ .f32 0x00000000#32) reducesTo_S1000x1025_S1000_d1 h_S_

/-- Their mean. -/
def meanSquare (a : FVec F S1000x1025 .f32) : FVec F S_ .f32 :=
  Host.divf (Host.reduceAdd (squares a) (constant S_ .f32 0x00000000#32) reducesTo_S1000_S_d0 h_S_) (constant S_ .f32 0x447A0000#32)

/-- The sums of squares less their mean, and 24 infinities after them. -/
def excess (a : FVec F S1000x1025 .f32) : FVec F S1024 .f32 :=
  pad S1024 ![0] ![24] ![0] (subf (squares a) (broadcastInDim S1000 ![] bcast_S_S1000 (meanSquare a)))
    (constant S_ .f32 0x7F800000#32) pads_S1000_S1024_0240 h_S_

/-- Both tables' columns. -/
def both (a b : FVec F S1000x1025 .f32) : FVec F S1024x2048 .f32 :=
  concatenate S1024x2048 1 [⟨S1024x1024, columns a⟩, ⟨S1024x1024, columns b⟩] concatenates_S1024x1024_S1024x1024_S1024x2048_d1

/-- The columns rounded. -/
def rounded (a b : FVec F S1000x1025 .f32) : FVec F S1024x2048 .bf16 := truncf .bf16 (both a b) bitsLt_bf16_f32

/-- What the rounding left, rounded. -/
def leftOver (a b : FVec F S1000x1025 .f32) : FVec F S1024x2048 .bf16 :=
  truncf .bf16 (subf (both a b) (extf .f32 (rounded a b) bitsLt_bf16_f32)) bitsLt_bf16_f32

/-- The first row of numbers: the excesses. -/
def excesses (a b : FVec F S1000x1025 .f32) : FVec F S2048 .f32 :=
  concatenate S2048 0 [⟨S1024, excess a⟩, ⟨S1024, excess b⟩] concatenates_S1024_S1024_S2048_d0

/-- The second row of numbers: the last entries. -/
def endings (a b : FVec F S1000x1025 .f32) : FVec F S2048 .f32 :=
  concatenate S2048 0 [⟨S1024, lasts a⟩, ⟨S1024, lasts b⟩] concatenates_S1024_S1024_S2048_d0

/-- One index word. -/
def word (w : BitVec 32) : IVec S1 32 := broadcastInDim S1 ![] bcast_S_S1 (constantI S_ 32 w)

/-- The two rows, in a block of eight. -/
def numbers (a b : FVec F S1000x1025 .f32) : FVec F S8x2048 .f32 :=
  Host.scatter scatter_S8x2048_S1_S2048_0_0_0_0 (fun _ b => b)
    (Host.scatter scatter_S8x2048_S1_S2048_0_0_0_0 (fun _ b => b)
      (broadcastInDim S8x2048 ![] bcast_S_S8x2048 (constant S_ .f32 0x00000000#32)) (word 0#32) (excesses a b))
    (word 1#32) (endings a b)

/-- Half of each query's length, its last entry `1` counted. -/
def halves (x : FVec F S16384x1024 .f32) : FVec F S16384 .f32 :=
  mulf (broadcastInDim S16384 ![] bcast_S_S16384 (constant S_ .f32 0x3F000000#32))
    (Host.sqrt (addf (Host.reduceAdd (mulf x x) (constant S_ .f32 0x00000000#32) reducesTo_S16384x1024_S16384_d1 h_S_)
      (broadcastInDim S16384 ![] bcast_S_S16384 (constant S_ .f32 0x3F800000#32))))

/-- The same along 128 lanes. -/
def lanes (x : FVec F S16384x1024 .f32) : FVec F S16384x128 .f32 :=
  broadcastInDim S16384x128 ![0, 1] bcast_S16384x1_S16384x128_0_1 (broadcastInDim S16384x1 ![0] bcast_S16384_S16384x1_0 (halves x))

/-- The first argument, on one device. -/
abbrev argX (c : Dev nD) : FVec F S16384x1024 .f32 := m ((c : Thread nD τ).loc main_arg0)
/-- The second. -/
abbrev argA (c : Dev nD) : FVec F S1000x1025 .f32 := m ((c : Thread nD τ).loc main_arg1)
/-- The third. -/
abbrev argB (c : Dev nD) : FVec F S1000x1025 .f32 := m ((c : Thread nD τ).loc main_arg2)

theorem V_rounded (c : Dev nD) : V m c main_v27 = rounded (argA m c) (argB m c) := by
  unfold V
  simp only [List.flatten_cons, List.flatten_nil, List.append_nil, List.cons_append, List.nil_append]
  after_results_simp
  rfl

theorem V_leftOver (c : Dev nD) : V m c main_v30 = leftOver (argA m c) (argB m c) := by
  unfold V
  simp only [List.flatten_cons, List.flatten_nil, List.append_nil, List.cons_append, List.nil_append]
  after_results_simp
  rfl

theorem V_numbers (c : Dev nD) : V m c main_v37 = numbers (argA m c) (argB m c) := by
  unfold V
  simp only [List.flatten_cons, List.flatten_nil, List.append_nil, List.cons_append, List.nil_append]
  after_results_simp
  rfl

theorem V_lanes (c : Dev nD) : V m c main_v46 = lanes (argX m c) := by
  unfold V
  simp only [List.flatten_cons, List.flatten_nil, List.append_nil, List.cons_append, List.nil_append]
  after_results_simp
  rfl

end Cert.KernelIdeal.Hand

end
-- ==== Proof.KRows.lean ====
/-
  Writing one row of a matrix at a literal index, read at an entry.
-/
module

public import Idealize.ShloMosaic.Lib.Routing.OpsSet
public import Idealize.ShloMosaic.Lib.ShapeFacts

@[expose] public section

namespace Cert.KRows

open Idealize.ShloMosaic Idealize.ShloMosaic.ValueIdx Idealize.ShloMosaic.Routing

/-- Entry `e` of a row update lands at `(r, c)` exactly when `r` is the row the index word names and `c` is `e`. -/
theorem lands_row {A N : Nat} (d : ScatterDims (shape2 A N) (shape1 1) (shape1 N)) (hiw : d.insertedWindowDims = [0])
    (hsd : d.scatterDimsToOperandDims = [0]) (idx : IVec (shape1 1) 32) (k : Fin A) (hidx : (idx (ix1 0)).toInt = (k.val : Int))
    (e : Fin N) (r : Fin A) (c : Fin N) : d.resultIdx? (ix1 e) idx = some (ix2 r c) ↔ r = k ∧ e = c := by
  have hm : (0 : Fin 2) ∈ d.scatterDimsToOperandDims := by rw [hsd]; exact List.mem_singleton.2 rfl
  have hkept : d.sKept = [1] := by
    show (shape2 A N).kept d.insertedWindowDims = _
    rw [hiw]
    rfl
  have row_window : d.window (ix1 e) 0 = 0 := by
    unfold ScatterDims.window
    exact dif_neg fun h => (of_decide_eq_true (List.mem_filter.1 h).2) (by rw [hiw]; exact List.mem_singleton.2 rfl)
  have col_window : d.window (ix1 e) 1 = e.val := by
    unfold ScatterDims.window
    rw [dif_pos (by rw [hkept]; exact List.mem_singleton.2 rfl)]
    exact (fun X : Fin 1 => by rw [Subsingleton.elim X 0] : ∀ X : Fin 1, (ix1 e X).val = e.val) _
  have col_start : d.start (ix1 e) idx 1 = 0 := by
    unfold ScatterDims.start
    refine dif_neg fun h => ?_
    rw [hsd] at h
    exact absurd (List.mem_singleton.1 h) (by decide : (1 : Fin 2) ≠ 0)
  have row_start : d.start (ix1 e) idx 0 = (k.val : Int) := by
    unfold ScatterDims.start
    rw [dif_pos hm, ← hidx]
    refine congrArg (fun j => (idx j).toInt) (funext fun b => ?_)
    match b with
    | ⟨0, _⟩ => exact Subsingleton.elim (α := Fin 1) _ _
  rw [resultIdx?_ix2, row_start, row_window, col_start, col_window, Fin.ext_iff, Fin.ext_iff]
  omega

/-- A row written: the update along the row the index word names, the operand elsewhere. -/
theorem scatter_row {α : Type} {A N : Nat} (d : ScatterDims (shape2 A N) (shape1 1) (shape1 N)) (hiw : d.insertedWindowDims = [0])
    (hsd : d.scatterDimsToOperandDims = [0]) (x : (shape2 A N).Idx → α) (idx : IVec (shape1 1) 32) (upd : (shape1 N).Idx → α)
    (k : Fin A) (hidx : (idx (ix1 0)).toInt = (k.val : Int)) (r : Fin A) (c : Fin N) :
    Host.scatter d (fun _ b => b) x idx upd (ix2 r c) = if r = k then upd (ix1 c) else x (ix2 r c) := by
  have only : ∀ j : (shape1 N).Idx, d.resultIdx? j idx = some (ix2 r c) → r = k ∧ j = ix1 c := fun j hj => by
    rw [eq_ix1 j] at hj
    obtain ⟨h1, h2⟩ := (lands_row d hiw hsd idx k hidx (j 0) r c).1 hj
    exact ⟨h1, (eq_ix1 j).trans (congrArg ix1 h2)⟩
  split
  · rename_i h
    exact scatter_set_hit d x idx upd _ _ (fun j hj => congrArg upd (only j hj).2) (ix1 c)
      ((lands_row d hiw hsd idx k hidx c r c).2 ⟨h, rfl⟩)
  · rename_i h
    exact scatter_set_miss d x idx upd _ fun j hj => h (only j hj).1

end Cert.KRows

end
-- ==== Proof.First.lean ====
/-
  The first place of the least of finitely many numbers, and the two ways the programs find it: a fold of a min over the
  places that hold the least number, and a fold over (number, place) pairs.
-/
module

public import Mathlib.Data.EReal.Basic
public import Mathlib.Data.Finset.Fold
public import Mathlib.Data.Finset.Lattice.Fold
public import Mathlib.Data.Finset.Max
public import Mathlib.Data.Fintype.Card
public import Idealize.ShloMosaic.Lib.SortNet.Extract

@[expose] public section

namespace Cert.FirstLeast

open Idealize.ShloMosaic

/-- `j` is the first place of the least of the numbers `f`. -/
def IsFirst {n : ℕ} (f : Fin n → EReal) (j : Fin n) : Prop := (∀ k, f j ≤ f k) ∧ ∀ k, k < j → f j < f k

/-- There is one. -/
theorem exists_first {n : ℕ} (hn : 0 < n) (f : Fin n → EReal) : ∃ j, IsFirst f j := by
  have : Nonempty (Fin n) := ⟨⟨0, hn⟩⟩
  obtain ⟨a, -, ha⟩ := Finset.exists_min_image (Finset.univ : Finset (Fin n)) f Finset.univ_nonempty
  replace ha : ∀ k, f a ≤ f k := fun k => ha k (Finset.mem_univ _)
  have hne : (Finset.univ.filter fun k => f k = f a).Nonempty := ⟨a, by simp⟩
  refine ⟨(Finset.univ.filter fun k => f k = f a).min' hne, ?_⟩
  have hmem := Finset.min'_mem _ hne
  rw [Finset.mem_filter] at hmem
  refine ⟨fun k => hmem.2.trans_le (ha k), fun k hk => ?_⟩
  rw [hmem.2]
  refine lt_of_le_of_ne (ha k) fun h => ?_
  exact absurd (Finset.min'_le _ k (by simp [h])) (not_le.mpr hk)

/-- Numbers compared the same way have their least at the same place. -/
theorem IsFirst.congr {n : ℕ} {f g : Fin n → EReal} (h : ∀ j k, f j ≤ f k ↔ g j ≤ g k) {j : Fin n} (hj : IsFirst f j) :
    IsFirst g j :=
  ⟨fun k => (h j k).mp (hj.1 k), fun k hk => by
    have := hj.2 k hk
    rw [← not_le] at this ⊢
    exact fun hh => this ((h k j).mpr hh)⟩

/-- More numbers, all greater, change nothing. -/
theorem IsFirst.extend {n m : ℕ} (hnm : n ≤ m) {f : Fin n → EReal} {g : Fin m → EReal} (hg : ∀ k : Fin n, g (k.castLE hnm) = f k)
    {j : Fin n} (htop : ∀ k : Fin m, n ≤ k.val → f j ≤ g k) (hj : IsFirst f j) : IsFirst g (j.castLE hnm) := by
  refine ⟨fun k => ?_, fun k hk => ?_⟩
  · rw [hg]
    by_cases hk : k.val < n
    · exact (hj.1 ⟨k, hk⟩).trans_eq (hg ⟨k, hk⟩).symm
    · exact htop k (not_lt.mp hk)
  · rw [hg]
    have hk' : k.val < j.val := hk
    exact (hj.2 ⟨k, hk'.trans j.isLt⟩ hk).trans_eq (hg ⟨k, hk'.trans j.isLt⟩).symm

/-- A small number as a signed word. -/
theorem toInt_ofNat_small {n : ℕ} (h : n < 2 ^ 31) : (BitVec.ofNat 32 n).toInt = n := by
  have hm : n % 2 ^ 32 = n := Nat.mod_eq_of_lt (by omega)
  rw [BitVec.toInt_eq_toNat_cond, BitVec.toNat_ofNat, hm, if_pos (by omega)]

/-- The signed minimum of a family of words from the greatest word, by the integers they stand for. -/
theorem toInt_fold_minsi {ι : Type} (s : Finset ι) (z : BitVec 32) (g : ι → BitVec 32) :
    (s.fold IntOp.minsi z g).toInt = s.fold min z.toInt fun i => (g i).toInt :=
  (Finset.fold_hom (op := IntOp.minsi) (op' := min) (m := BitVec.toInt) (fun x y => SortNet.toInt_minsi x y)).symm

/-- The kernel's search: of the places that hold the least number the smallest, other places counted as `1024`. -/
theorem first_by_min {n : ℕ} (hn : n ≤ 1024) (f : Fin n → EReal) {j : Fin n} (hj : IsFirst f j) (g : Fin n → BitVec 32)
    (hg : ∀ k, g k = if f k = (Finset.univ : Finset (Fin n)).fold min ⊤ f then BitVec.ofNat 32 k.val else 1024#32) :
    (Finset.univ : Finset (Fin n)).fold IntOp.minsi 2147483647#32 g = BitVec.ofNat 32 j.val := by
  have hm : (Finset.univ : Finset (Fin n)).fold min ⊤ f = f j := by
    refine le_antisymm ?_ ?_
    · exact (Finset.fold_min_le _).mpr (.inr ⟨j, Finset.mem_univ _, le_refl _⟩)
    · exact (Finset.le_fold_min _).mpr ⟨le_top, fun k _ => hj.1 k⟩
  have hgi : ∀ k, (g k).toInt = if f k = f j then (k.val : ℤ) else 1024 := fun k => by
    rw [hg, hm]; split_ifs
    · exact toInt_ofNat_small (by have := k.isLt; omega)
    · decide
  refine BitVec.eq_of_toInt_eq ?_
  rw [toInt_fold_minsi, toInt_ofNat_small (n := j.val) (by have := j.isLt; omega)]
  refine le_antisymm ?_ ?_
  · exact (Finset.fold_min_le _).mpr (.inr ⟨j, Finset.mem_univ _, by rw [hgi, if_pos rfl]⟩)
  · refine (Finset.le_fold_min _).mpr ⟨?_, fun k _ => ?_⟩
    · have := j.isLt
      rw [show (2147483647#32).toInt = 2147483647 from by decide]; omega
    · rw [hgi]; split_ifs with h
      · by_contra hlt
        exact absurd h (ne_of_gt (hj.2 k (by omega)))
      · have := j.isLt; omega

/-- The pair `p` is no worse than `q`: less, or as great and placed no later. -/
def NoWorse (p q : EReal × BitVec 32) : Prop := p.1 < q.1 ∨ (p.1 = q.1 ∧ p.2.toInt ≤ q.2.toInt)

theorem NoWorse.refl (p) : NoWorse p p := .inr ⟨rfl, le_refl _⟩

theorem NoWorse.trans {p q r} (h : NoWorse p q) (h' : NoWorse q r) : NoWorse p r := by
  rcases h with h | ⟨h, hi⟩ <;> rcases h' with h' | ⟨h', hi'⟩
  · exact .inl (h.trans h')
  · exact .inl (h.trans_eq h')
  · exact .inl (h.trans_lt h')
  · exact .inr ⟨h.trans h', hi.trans hi'⟩

/-- A fold that keeps one of two pairs, never the worse, gives one of the pairs it met, no worse than any. -/
theorem foldl_noWorse {op : EReal × BitVec 32 → EReal × BitVec 32 → EReal × BitVec 32}
    (hop : ∀ p q, (op p q = p ∧ NoWorse p q) ∨ (op p q = q ∧ NoWorse q p)) (l : List (EReal × BitVec 32)) (z) :
    (l.foldl op z = z ∨ l.foldl op z ∈ l) ∧ NoWorse (l.foldl op z) z ∧ ∀ p ∈ l, NoWorse (l.foldl op z) p := by
  induction l generalizing z with
  | nil => exact ⟨.inl rfl, NoWorse.refl _, fun _ h => absurd h List.not_mem_nil⟩
  | cons a l ih =>
    rw [List.foldl_cons]
    obtain ⟨h1, h2, h3⟩ := ih (op z a)
    have hz : NoWorse (op z a) z := by
      rcases hop z a with ⟨e, h⟩ | ⟨e, h⟩ <;> rw [e]
      · exact NoWorse.refl _
      · exact h
    have ha : NoWorse (op z a) a := by
      rcases hop z a with ⟨e, h⟩ | ⟨e, h⟩ <;> rw [e]
      · exact h
      · exact NoWorse.refl _
    refine ⟨?_, h2.trans hz, fun p hp => ?_⟩
    · rcases h1 with h1 | h1
      · rcases hop z a with ⟨e, -⟩ | ⟨e, -⟩ <;> rw [h1, e]
        · exact .inl rfl
        · exact .inr List.mem_cons_self
      · exact .inr (List.mem_cons_of_mem _ h1)
    · rcases List.mem_cons.mp hp with rfl | hp
      · exact h2.trans ha
      · exact h3 p hp

/-- The reference's search: the fold over the pairs of numbers and places, from the pair of `⊤` and zero. -/
theorem first_by_pairs {n : ℕ} (hn : n ≤ 1024) {op : EReal × BitVec 32 → EReal × BitVec 32 → EReal × BitVec 32}
    (hop : ∀ p q, (op p q = p ∧ NoWorse p q) ∨ (op p q = q ∧ NoWorse q p)) (f : Fin n → EReal) (hf : ∀ k, f k < ⊤)
    {j : Fin n} (hj : IsFirst f j) (l : List (EReal × BitVec 32))
    (hl : ∀ p, p ∈ l ↔ ∃ k : Fin n, p = (f k, BitVec.ofNat 32 k.val)) :
    (l.foldl op (⊤, 0#32)).2 = BitVec.ofNat 32 j.val := by
  obtain ⟨h1, -, h3⟩ := foldl_noWorse hop l (⊤, 0#32)
  have hb := h3 (f j, BitVec.ofNat 32 j.val) ((hl _).mpr ⟨j, rfl⟩)
  have hlt : (l.foldl op (⊤, 0#32)).1 < ⊤ := by
    rcases hb with hb | ⟨hb, -⟩
    · exact hb.trans (hf j)
    · rw [hb]; exact hf j
  rcases h1 with h1 | h1
  · rw [h1] at hlt; exact absurd hlt (lt_irrefl _)
  obtain ⟨k, hk⟩ := (hl _).mp h1
  rw [hk] at hb ⊢
  have hkj : k = j := by
    rcases hb with hb | ⟨hb, hi⟩
    · exact absurd hb (not_lt.mpr (hj.1 k))
    · simp only at hb hi
      rw [toInt_ofNat_small (n := k.val) (by have := k.isLt; omega), toInt_ofNat_small (n := j.val) (by have := j.isLt; omega)] at hi
      by_contra hne
      have : k < j := lt_of_le_of_ne (by omega) hne
      exact absurd hb (ne_of_gt (hj.2 k this))
  rw [hkj]

end Cert.FirstLeast
-- ==== Proof.KFirst.lean ====
/-
  The kernel's two index vectors read at a row: the first place of the least score of that row's first, and of its second,
  1024 columns.
-/
module

public import proofs.«01_k».proof.Proof.KBody
public import proofs.«01_k».proof.Proof.First
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen Cert.FirstLeast
open Idealize.ShloMosaic Idealize.ShloMosaic.TcCoe Idealize.ShloMosaic.Tactic

/-- The bits the kernel starts its minimum from are `⊤`. -/
theorem ofBits_top : (Ideal.ofBits .f32 0x7F800000#32 : EReal) = ⊤ := by simp [Ideal.ofBits, Ideal.ieee]

theorem firstLo_apply (d : Vec Ideal S256x2048 .f32) (r : Fin 256) {j : Fin 1024}
    (hj : IsFirst (fun k : Fin 1024 => (d (ix2 r (k.castLE (by decide))) : EReal)) j) :
    firstLo d (ix1 r) = BitVec.ofNat 32 j.val := by
  pointwise [firstLo, cols, k0_pay1, k0_pay6, k0_pay7]
  rw [ofBits_top]
  exact first_by_min (le_refl _) _ hj _ fun k => rfl

theorem firstHi_apply (d : Vec Ideal S256x2048 .f32) (r : Fin 256) {j : Fin 1024}
    (hj : IsFirst (fun k : Fin 1024 => (d (ix2 r (k.natAdd 1024)) : EReal)) j) :
    firstHi d (ix1 r) = BitVec.ofNat 32 j.val := by
  pointwise [firstHi, cols, k0_pay2]
  rw [ofBits_top]
  exact first_by_min (le_refl _) _ hj _ fun k => rfl

end Cert.KernelIdeal.Hand

end
-- ==== Proof.Numbers.lean ====
/-
  The two programs' numbers for one query and one row of a table, all of them real: the reference's distance is the root of
  `gap`, the sum of the squared differences between the unit query and the row, and the kernel's score is `gap` scaled by
  half the query's length and shifted by a number that does not depend on the row. So both order the rows the same way.
-/
module

public import Idealize.ShloMosaic.PureOps.Ideal
public import Idealize.ShloMosaic.Lib.IdealHost

@[expose] public section

noncomputable section

namespace Cert.Numbers

open Idealize.ShloMosaic

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_two : (Ideal.ofBits .f32 0x40000000#32 : EReal) = ((2 : ℝ) : EReal) := by
  simp [Ideal.ofBits, Ideal.ieee]
  rw [← EReal.coe_mul]; norm_num

theorem ofBits_half : (Ideal.ofBits .f32 0x3F000000#32 : EReal) = ((1 / 2 : ℝ) : EReal) := by
  simp [Ideal.ofBits, Ideal.ieee]
  rw [← EReal.coe_mul]; norm_num

/-- The length of a query followed by a one. -/
def len (X : Fin 1024 → ℝ) : ℝ := √(∑ d, X d * X d + 1)

theorem len_pos (X : Fin 1024 → ℝ) : 0 < len X :=
  Real.sqrt_pos.mpr (add_pos_of_nonneg_of_pos (Finset.sum_nonneg fun d _ => mul_self_nonneg _) one_pos)

/-- The entries of a query followed by a one, -/
def longer (X : Fin 1024 → ℝ) (e : Fin 1025) : ℝ := if h : e.val < 1024 then X ⟨e.val, h⟩ else 1

/-- divided by their length. -/
def unit (X : Fin 1024 → ℝ) (e : Fin 1025) : ℝ := longer X e / len X

/-- The squared distance of the unit query from a row. -/
def gap (X : Fin 1024 → ℝ) (C : Fin 1025 → ℝ) : ℝ := ∑ e, (unit X e - C e) * (unit X e - C e)

theorem gap_nonneg (X : Fin 1024 → ℝ) (C : Fin 1025 → ℝ) : 0 ≤ gap X C := Finset.sum_nonneg fun e _ => mul_self_nonneg _

/-- The squared distance, its square opened. -/
theorem gap_eq (X : Fin 1024 → ℝ) (C : Fin 1025 → ℝ) :
    gap X C = ∑ e, unit X e * unit X e + ∑ e, C e * C e - 2 * ∑ e, unit X e * C e := by
  unfold gap
  rw [Finset.mul_sum, ← Finset.sum_add_distrib, ← Finset.sum_sub_distrib]
  exact Finset.sum_congr rfl fun e _ => by ring

/-- The product of the unit query with a row, by the query's entries. -/
theorem unit_dot (X : Fin 1024 → ℝ) (C : Fin 1025 → ℝ) :
    ∑ e, unit X e * C e = (∑ d : Fin 1024, X d * C d.castSucc + C (Fin.last 1024)) / len X := by
  rw [Fin.sum_univ_castSucc, add_div, Finset.sum_div]
  congr 1
  · refine Finset.sum_congr rfl fun d _ => ?_
    have : longer X d.castSucc = X d := by unfold longer; rw [dif_pos (show d.castSucc.val < 1024 from d.isLt)]; rfl
    unfold unit; rw [this]; ring
  · have : longer X (Fin.last 1024) = 1 := by unfold longer; rw [dif_neg (by simp)]
    unfold unit; rw [this]; ring

variable (x : Fin 1024 → EReal) (X : Fin 1024 → ℝ) (c : Fin 1025 → EReal) (C : Fin 1025 → ℝ)

theorem sum_sq (hx : ∀ d, x d = (X d : EReal)) : ∑ d, x d * x d = ((∑ d, X d * X d : ℝ) : EReal) := by
  rw [coe_sum]; exact Finset.sum_congr rfl fun d _ => by rw [hx, EReal.coe_mul]

/-- The length as the programs compute it. -/
theorem sqrt_len (hx : ∀ d, x d = (X d : EReal)) : Ideal.sqrt (∑ d, x d * x d + 1) = (len X : EReal) := by
  rw [sum_sq x X hx, ← EReal.coe_one, ← EReal.coe_add, Ideal.sqrt_coe, if_neg]
  · rfl
  · exact not_lt.mpr (add_nonneg (Finset.sum_nonneg fun d _ => mul_self_nonneg _) zero_le_one)

/-- The reference's unit query. -/
theorem unit_coe (hx : ∀ d, x d = (X d : EReal)) (e : Fin 1025) :
    Ideal.div (if h : e.val < 1024 then x ⟨e.val, h⟩ else 1) (Ideal.sqrt (∑ d, x d * x d + ∑ _i : Fin 1, (1 : EReal)))
      = (unit X e : EReal) := by
  rw [Fin.sum_univ_one, sqrt_len x X hx, Ideal.div_coe (len_pos X).ne']
  have : (if h : e.val < 1024 then x ⟨e.val, h⟩ else 1 : EReal) = (longer X e : EReal) := by
    unfold longer; split_ifs
    · exact hx _
    · rfl
  rw [this, ← EReal.coe_mul]
  unfold unit
  rw [mul_one_div]

/-- The reference's distance. -/
theorem distance_coe (a : Fin 1025 → EReal) (ha : ∀ e, a e = (unit X e : EReal)) (hc : ∀ e, c e = (C e : EReal)) :
    Ideal.sqrt (max (∑ e, a e * a e + ∑ e, c e * c e - Ideal.ofBits .f32 0x40000000#32 * ∑ e, a e * c e) 0)
      = ((√(gap X C) : ℝ) : EReal) := by
  have h1 : ∑ e, a e * a e = ((∑ e, unit X e * unit X e : ℝ) : EReal) := by
    rw [coe_sum]; exact Finset.sum_congr rfl fun e _ => by rw [ha, EReal.coe_mul]
  have h2 : ∑ e, c e * c e = ((∑ e, C e * C e : ℝ) : EReal) := by
    rw [coe_sum]; exact Finset.sum_congr rfl fun e _ => by rw [hc, EReal.coe_mul]
  have h3 : ∑ e, a e * c e = ((∑ e, unit X e * C e : ℝ) : EReal) := by
    rw [coe_sum]; exact Finset.sum_congr rfl fun e _ => by rw [ha, hc, EReal.coe_mul]
  rw [h1, h2, h3, ofBits_two, ← EReal.coe_mul, ← EReal.coe_add, ← EReal.coe_sub, ← gap_eq,
    max_eq_left (by exact_mod_cast gap_nonneg X C), Ideal.sqrt_coe, if_neg (not_lt.mpr (gap_nonneg X C))]

/-- What the kernel's scores of one query are shifted by, given the mean `μ` of the rows' sums of squares. -/
def shift (X : Fin 1024 → ℝ) (μ : ℝ) : ℝ := ∑ e, unit X e * unit X e + μ

/-- The kernel's score: half the length times the shifted squared distance. -/
theorem score_coe (hx : ∀ d, x d = (X d : EReal)) (hc : ∀ e, c e = (C e : EReal)) (μ : ℝ) :
    Ideal.ofBits .f32 0x3F000000#32 * Ideal.sqrt (∑ d, x d * x d + 1) * (∑ e, c e * c e - (μ : EReal)) - c (Fin.last 1024)
        - (∑ d : Fin 1024, x d * c d.castSucc + ∑ d : Fin 1024, x d * (c d.castSucc - c d.castSucc)
          + ∑ d : Fin 1024, (x d - x d) * c d.castSucc)
      = ((len X / 2 * (gap X C - shift X μ) : ℝ) : EReal) := by
  have h1 : ∑ e, c e * c e = ((∑ e, C e * C e : ℝ) : EReal) := by
    rw [coe_sum]; exact Finset.sum_congr rfl fun e _ => by rw [hc, EReal.coe_mul]
  have h2 : ∑ d : Fin 1024, x d * c d.castSucc = ((∑ d : Fin 1024, X d * C d.castSucc : ℝ) : EReal) := by
    rw [coe_sum]; exact Finset.sum_congr rfl fun d _ => by rw [hx, hc, EReal.coe_mul]
  have h3 : ∑ d : Fin 1024, x d * (c d.castSucc - c d.castSucc) = 0 :=
    Finset.sum_eq_zero fun d _ => by rw [hc, ← EReal.coe_sub, sub_self, EReal.coe_zero, mul_zero]
  have h4 : ∑ d : Fin 1024, (x d - x d) * c d.castSucc = 0 :=
    Finset.sum_eq_zero fun d _ => by rw [hx, ← EReal.coe_sub, sub_self, EReal.coe_zero, zero_mul]
  rw [sqrt_len x X hx, h1, h2, h3, h4, hc, ofBits_half, add_zero, add_zero, ← EReal.coe_mul, ← EReal.coe_sub, ← EReal.coe_mul,
    ← EReal.coe_sub, ← EReal.coe_sub, gap_eq, unit_dot X C]
  congr 1
  unfold shift
  have := (len_pos X).ne'
  field_simp
  ring

/-- The score of a padding column is `⊤`. -/
theorem score_pad (hx : ∀ d, x d = (X d : EReal)) (z : EReal) (hz : z = 0) :
    Ideal.ofBits .f32 0x3F000000#32 * Ideal.sqrt (∑ d, x d * x d + 1) * ⊤ - z
        - (∑ d : Fin 1024, x d * z + ∑ d : Fin 1024, x d * (z - z) + ∑ d : Fin 1024, (x d - x d) * z) = ⊤ := by
  subst hz
  rw [sqrt_len x X hx, ofBits_half, ← EReal.coe_mul,
    EReal.coe_mul_top_of_pos (mul_pos (by norm_num) (len_pos X))]
  simp

/-- The distances and the scores order the rows the same way. -/
theorem order_iff (C' : Fin 1025 → ℝ) (μ : ℝ) :
    ((√(gap X C) : ℝ) : EReal) ≤ ((√(gap X C') : ℝ) : EReal)
      ↔ ((len X / 2 * (gap X C - shift X μ) : ℝ) : EReal) ≤ ((len X / 2 * (gap X C' - shift X μ) : ℝ) : EReal) := by
  rw [EReal.coe_le_coe_iff, EReal.coe_le_coe_iff, Real.sqrt_le_sqrt_iff (gap_nonneg X C'),
    mul_le_mul_iff_right₀ (half_pos (len_pos X)), sub_le_sub_iff_right]

end Cert.Numbers

end
-- ==== Proof.KValue.lean ====
/-
  The kernel's scores over the real numbers, and from them its two results: at each query, the position of the nearest row
  of each table.
-/
module

public import proofs.«01_k».proof.Proof.KHost
public import proofs.«01_k».proof.Proof.KRows
public import proofs.«01_k».proof.Proof.KFirst
public import proofs.«01_k».proof.Proof.Numbers
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen Cert.FirstLeast
open Idealize.ShloMosaic Idealize.ShloMosaic.TcCoe Idealize.ShloMosaic.Tactic

variable (m : (ℓ : Loc nD τ sig) → Buf (Elt Ideal) ℓ)

/-! ## The staged blocks -/

theorem index0 : ∀ t : Fin cfg0.N, t.val < 64 → win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, t.val < 64 → win0_4.index t = ![t.val, 0] := by decide +kernel

theorem block0 (c : Dev nD) (t : Fin cfg0.N) (ht : t.val < 64) (r : Fin 256) (d : Fin 1024) (q : Fin 16384)
    (hq : q.val = 256 * t.val + r.val) : iblk m c 0 t (ix2 r d) = argX m c (ix2 q d) := by
  refine Eq.trans ?_ (congrFun (V_main_arg0 m c) (ix2 q d))
  have e := index0 t ht
  blk_simp [iblk]
  exact congrArg _ (by blk_ext [e])

theorem block1 (c : Dev nD) (t : Fin cfg0.N) (d : Fin 1024) (k : Fin 2048) :
    iblk m c 1 t (ix2 d k) = rounded (argA m c) (argB m c) (ix2 d k) := by
  rw [← V_rounded]
  blk_simp [iblk]
  exact congrArg _ (by blk_ext [index1])

theorem block2 (c : Dev nD) (t : Fin cfg0.N) (d : Fin 1024) (k : Fin 2048) :
    iblk m c 2 t (ix2 d k) = leftOver (argA m c) (argB m c) (ix2 d k) := by
  rw [← V_leftOver]
  blk_simp [iblk]
  exact congrArg _ (by blk_ext [index2])

theorem block3 (c : Dev nD) (t : Fin cfg0.N) (d : Fin 8) (k : Fin 2048) :
    iblk m c 3 t (ix2 d k) = numbers (argA m c) (argB m c) (ix2 d k) := by
  rw [← V_numbers]
  blk_simp [iblk]
  exact congrArg _ (by blk_ext [index3])

theorem block4 (c : Dev nD) (t : Fin cfg0.N) (ht : t.val < 64) (r : Fin 256) (l : Fin 128) (q : Fin 16384)
    (hq : q.val = 256 * t.val + r.val) : iblk m c 4 t (ix2 r l) = lanes (argX m c) (ix2 q l) := by
  rw [← V_lanes]
  have e := index4 t ht
  blk_simp [iblk]
  exact congrArg _ (by blk_ext [e])

/-! ## Their entries -/

section Entries

variable (a b : FVec Ideal S1000x1025 .f32)

theorem zero_word : (FloatOps.sitofp (F := Ideal) .f32 0#32 : EReal) = 0 := by
  simp [FloatOps.sitofp]

theorem columns_row (d : Fin 1024) (k : Fin 1000) : columns a (ix2 d (k.castLE (by decide))) = a (ix2 k d.castSucc) := by
  pointwise [columns]
  exact dif_pos k.isLt

theorem columns_pad (d : Fin 1024) (k : Fin 1024) (hk : 1000 ≤ k.val) : (columns a (ix2 d k) : EReal) = 0 := by
  pointwise [columns]
  rw [dif_neg (not_lt.mpr hk), zero_word]

theorem lasts_row (k : Fin 1000) : lasts a (ix1 (k.castLE (by decide))) = a (ix2 k (Fin.last 1024)) := by
  pointwise [lasts]
  exact dif_pos k.isLt

theorem lasts_pad (k : Fin 1024) (hk : 1000 ≤ k.val) : (lasts a (ix1 k) : EReal) = 0 := by
  pointwise [lasts]
  rw [dif_neg (not_lt.mpr hk), zero_word]

/-- The mean of the sums of squares. -/
def mean : EReal := Ideal.div (∑ k : Fin 1000, ∑ e : Fin 1025, a (ix2 k e) * a (ix2 k e)) (Ideal.ofBits .f32 0x447A0000#32)

theorem excess_row (k : Fin 1000) :
    (excess a (ix1 (k.castLE (by decide))) : EReal) = ∑ e : Fin 1025, a (ix2 k e) * a (ix2 k e) - mean a := by
  pointwise [excess, meanSquare, squares]
  exact dif_pos k.isLt

theorem excess_pad (k : Fin 1024) (hk : 1000 ≤ k.val) : (excess a (ix1 k) : EReal) = ⊤ := by
  pointwise [excess, meanSquare, squares]
  rw [dif_neg (not_lt.mpr hk)]
  exact ofBits_top

theorem both_lo (d k : Fin 1024) : both a b (ix2 d (k.castLE (by decide))) = columns a (ix2 d k) := by
  pointwise [both]
  exact dif_pos k.isLt

theorem both_hi (d k : Fin 1024) : both a b (ix2 d (k.natAdd 1024)) = columns b (ix2 d k) := by
  pointwise [both]
  refine (dif_neg (by simp)).trans (congrArg (fun i => columns b (ix2 d i)) (Fin.ext ?_))
  simp

theorem excesses_lo (k : Fin 1024) : excesses a b (ix1 (k.castLE (by decide))) = excess a (ix1 k) := by
  pointwise [excesses]
  exact dif_pos k.isLt

theorem excesses_hi (k : Fin 1024) : excesses a b (ix1 (k.natAdd 1024)) = excess b (ix1 k) := by
  pointwise [excesses]
  refine (dif_neg (by simp)).trans (congrArg (fun i => excess b (ix1 i)) (Fin.ext ?_))
  simp

theorem endings_lo (k : Fin 1024) : endings a b (ix1 (k.castLE (by decide))) = lasts a (ix1 k) := by
  pointwise [endings]
  exact dif_pos k.isLt

theorem endings_hi (k : Fin 1024) : endings a b (ix1 (k.natAdd 1024)) = lasts b (ix1 k) := by
  pointwise [endings]
  refine (dif_neg (by simp)).trans (congrArg (fun i => lasts b (ix1 i)) (Fin.ext ?_))
  simp

theorem rounded_apply (d : Fin 1024) (k : Fin 2048) : rounded a b (ix2 d k) = both a b (ix2 d k) := by
  pointwise [rounded]

theorem leftOver_apply (d : Fin 1024) (k : Fin 2048) :
    (leftOver a b (ix2 d k) : EReal) = both a b (ix2 d k) - both a b (ix2 d k) := by
  pointwise [leftOver, rounded]

theorem word_apply (w : BitVec 32) (i : S1.Idx) : word w i = w := rfl

theorem numbers_0 (k : Fin 2048) : numbers a b (ix2 0 k) = excesses a b (ix1 k) := by
  unfold numbers
  simp only [ix2_eq_valueIdx, ix1_eq_valueIdx]
  rw [KRows.scatter_row _ rfl rfl _ _ _ (1 : Fin 8) (by rw [word_apply]; rfl), if_neg (by decide),
    KRows.scatter_row _ rfl rfl _ _ _ (0 : Fin 8) (by rw [word_apply]; rfl), if_pos rfl]

theorem numbers_1 (k : Fin 2048) : numbers a b (ix2 1 k) = endings a b (ix1 k) := by
  unfold numbers
  simp only [ix2_eq_valueIdx, ix1_eq_valueIdx]
  rw [KRows.scatter_row _ rfl rfl _ _ _ (1 : Fin 8) (by rw [word_apply]; rfl), if_pos rfl]

theorem lanes_apply (x : FVec Ideal S16384x1024 .f32) (q : Fin 16384) (l : Fin 128) :
    (lanes x (ix2 q l) : EReal)
      = Ideal.ofBits .f32 0x3F000000#32 * Ideal.sqrt (∑ d : Fin 1024, x (ix2 q d) * x (ix2 q d) + 1) := by
  pointwise [lanes, halves]

theorem score_apply (x0 : Vec Ideal S256x1024 .f32) (x1 x2 : Vec Ideal S1024x2048 .bf16) (x3 : Vec Ideal S8x2048 .f32)
    (x4 : Vec Ideal S256x128 .f32) (r : Fin 256) (k : Fin 2048) :
    (score x0 x1 x2 x3 x4 (ix2 r k) : EReal)
      = x4 (ix2 r 0) * x3 (ix2 0 k) - x3 (ix2 1 k)
        - (∑ d : Fin 1024, x0 (ix2 r d) * x1 (ix2 d k) + ∑ d : Fin 1024, x0 (ix2 r d) * x2 (ix2 d k)
          + ∑ d : Fin 1024, (x0 (ix2 r d) - x0 (ix2 r d)) * x1 (ix2 d k)) := by
  simp only [score, View.ld_unit]
  pointwise [k0_pay5]

end Entries

/-! ## The scores -/

/-- The score of a query against column `k` of one table. -/
def against (x : Fin 1024 → EReal) (a : FVec Ideal S1000x1025 .f32) (k : Fin 1024) : EReal :=
  Ideal.ofBits .f32 0x3F000000#32 * Ideal.sqrt (∑ d, x d * x d + 1) * excess a (ix1 k) - lasts a (ix1 k)
    - (∑ d, x d * columns a (ix2 d k) + ∑ d, x d * (columns a (ix2 d k) - columns a (ix2 d k))
      + ∑ d, (x d - x d) * columns a (ix2 d k))

section Scores

variable (c : Dev nD) (t : Fin cfg0.N) (ht : t.val < 64) (r : Fin 256) (q : Fin 16384) (hq : q.val = 256 * t.val + r.val)

include ht hq

theorem scored_lo (k : Fin 1024) : (scored m c t (ix2 r (k.castLE (by decide))) : EReal)
    = against (fun d => argX m c (ix2 q d)) (argA m c) k := by
  unfold scored against
  rw [score_apply, block4 m c t ht r 0 q hq, block3, block3, lanes_apply, numbers_0, numbers_1, excesses_lo, endings_lo]
  simp only [block0 m c t ht r _ q hq, block1, block2, rounded_apply, leftOver_apply, both_lo]

theorem scored_hi (k : Fin 1024) : (scored m c t (ix2 r (k.natAdd 1024)) : EReal)
    = against (fun d => argX m c (ix2 q d)) (argB m c) k := by
  unfold scored against
  rw [score_apply, block4 m c t ht r 0 q hq, block3, block3, lanes_apply, numbers_0, numbers_1, excesses_hi, endings_hi]
  simp only [block0 m c t ht r _ q hq, block1, block2, rounded_apply, leftOver_apply, both_hi]

end Scores

/-! ## The least of them -/

section Least

variable (x : Fin 1024 → EReal) (X : Fin 1024 → ℝ) (hx : ∀ d, x d = (X d : EReal))
  (a : FVec Ideal S1000x1025 .f32) (C : Fin 1000 → Fin 1025 → ℝ) (hc : ∀ k e, a (ix2 k e) = (C k e : EReal))

theorem ofBits_thousand : (Ideal.ofBits .f32 0x447A0000#32 : EReal) = ((1000 : ℝ) : EReal) := by
  simp [Ideal.ofBits, Ideal.ieee]
  rw [← EReal.coe_mul]; norm_num

include hc in
theorem mean_coe : ∃ μ : ℝ, mean a = (μ : EReal) := by
  refine ⟨(∑ k, ∑ e, C k e * C k e) * (1 / 1000), ?_⟩
  unfold mean
  rw [ofBits_thousand, Ideal.div_coe (by norm_num), EReal.coe_mul, Numbers.coe_sum]
  congr 1
  refine Finset.sum_congr rfl fun k _ => ?_
  rw [Numbers.coe_sum]
  exact Finset.sum_congr rfl fun e _ => by rw [hc, EReal.coe_mul]

include hx hc in
theorem against_row (μ : ℝ) (hμ : mean a = (μ : EReal)) (k : Fin 1000) : against x a (k.castLE (by decide))
    = ((Numbers.len X / 2 * (Numbers.gap X (C k) - Numbers.shift X μ) : ℝ) : EReal) := by
  unfold against
  simp only [columns_row, lasts_row, excess_row, hμ]
  exact Numbers.score_coe x X (fun e => a (ix2 k e)) (C k) hx (hc k) μ

include hx in
theorem against_pad (k : Fin 1024) (hk : 1000 ≤ k.val) : against x a k = ⊤ := by
  unfold against
  simp only [columns_pad a _ k hk, lasts_pad a k hk, excess_pad a k hk]
  exact Numbers.score_pad x X hx 0 rfl

include hx hc in
theorem first_against {j : Fin 1000} (hj : IsFirst (fun k : Fin 1000 => ((√(Numbers.gap X (C k)) : ℝ) : EReal)) j) :
    IsFirst (against x a) (j.castLE (by decide : 1000 ≤ 1024)) := by
  obtain ⟨μ, hμ⟩ := mean_coe a C hc
  refine IsFirst.extend (by decide : 1000 ≤ 1024) (against_row x X hx a C hc μ hμ) (fun k hk => ?_)
    (hj.congr fun i k => Numbers.order_iff X (C i) (C k) μ)
  rw [against_pad x X hx a k hk]
  exact le_top

end Least

/-! ## The results -/

section Results

variable (c : Dev nD) (q : Fin 16384) (X : Fin 1024 → ℝ) (hx : ∀ d, argX m c (ix2 q d) = (X d : EReal))
  (C : Fin 1000 → Fin 1025 → ℝ) (j : Fin 1000)
  (hj : IsFirst (fun k : Fin 1000 => ((√(Numbers.gap X (C k)) : ℝ) : EReal)) j)

include hx hj

theorem loOut_apply (hc : ∀ k e, argA m c (ix2 k e) = (C k e : EReal)) : loOut m c (ix1 q) = BitVec.ofNat 32 j.val := by
  have hr : rowOf (ix1 q) = ix1 ⟨q.val % 256, Nat.mod_lt _ (by decide)⟩ := funext fun a => by
    match a with
    | 0 => rfl
  have ht : (pointOf (ix1 q)).val < 64 := show q.val / 256 < 64 by omega
  unfold loOut
  rw [hr]
  refine firstLo_apply _ _ (j := j.castLE (by decide)) ?_
  convert first_against _ X hx _ C hc hj using 1
  exact funext fun k => scored_lo m c _ ht ⟨q.val % 256, Nat.mod_lt _ (by decide)⟩ q (Nat.div_add_mod q.val 256).symm k

theorem hiOut_apply (hc : ∀ k e, argB m c (ix2 k e) = (C k e : EReal)) : hiOut m c (ix1 q) = BitVec.ofNat 32 j.val := by
  have hr : rowOf (ix1 q) = ix1 ⟨q.val % 256, Nat.mod_lt _ (by decide)⟩ := funext fun a => by
    match a with
    | 0 => rfl
  have ht : (pointOf (ix1 q)).val < 64 := show q.val / 256 < 64 by omega
  unfold hiOut
  rw [hr]
  refine firstHi_apply _ _ (j := j.castLE (by decide)) ?_
  convert first_against _ X hx _ C hc hj using 1
  exact funext fun k => scored_hi m c _ ht ⟨q.val % 256, Nat.mod_lt _ (by decide)⟩ q (Nat.div_add_mod q.val 256).symm k

end Results

end Cert.KernelIdeal.Hand

end
-- ==== Proof.RRun.lean ====
/-
  The run of the reference: its operations as nine lines one after the other (the queries divided by their lengths, then,
  for each of the two tables, the rows taken, the distances, the least one's position, the label there), what each line
  leaves, and from that both results as functions of the arguments.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-! ## The operations -/

/-- The queries, each with a last entry `1`, divided by their length. -/
abbrev s0 : List (HloOp τ sig (Elt F)) :=
  [ nullary main_cst (constant S_ .f32 0x3F800000#32),
    unary main_cst main_v0 (broadcastInDim S16384x1 ![] bcast_S_S16384x1 : (⟨S_, .f32⟩ : BufTy).Contents (Elt F) → (⟨S16384x1, .f32⟩ : BufTy).Contents (Elt F)),
    binary main_arg0 main_v0 main_v1 ((fun a b => concatenate S16384x1025 1 [⟨S16384x1024, a⟩, ⟨S16384x1, b⟩] concatenates_S16384x1024_S16384x1_S16384x1025_d1) : (⟨S16384x1024, .f32⟩ : BufTy).Contents (Elt F) → (⟨S16384x1, .f32⟩ : BufTy).Contents (Elt F) → (⟨S16384x1025, .f32⟩ : BufTy).Contents (Elt F)),
    TRef.binary (.of main_v1) (.of main_v1) main_call0.v0 mulf,
    TRef.nullary main_call0.cst (constant S_ .f32 0x00000000#32),
    TRef.binary main_call0.v0 main_call0.cst main_call0.v1 (fun x v => Host.reduceAdd x v reducesTo_S16384x1025_S16384_d1 h_S_),
    TRef.unary main_call0.v1 main_call0.v2 (broadcastInDim S16384x1 ![0] bcast_S16384_S16384x1_0),
    TRef.unary main_call0.v2 main_call0.v3 Host.sqrt,
    unary main_v2 main_v3 (broadcastInDim S16384x1025 ![0, 1] bcast_S16384x1_S16384x1025_0_1 : (⟨S16384x1, .f32⟩ : BufTy).Contents (Elt F) → (⟨S16384x1025, .f32⟩ : BufTy).Contents (Elt F)),
    binary main_v1 main_v3 main_v4 (Host.divf : (⟨S16384x1025, .f32⟩ : BufTy).Contents (Elt F) → (⟨S16384x1025, .f32⟩ : BufTy).Contents (Elt F) → (⟨S16384x1025, .f32⟩ : BufTy).Contents (Elt F)) ]

/-- The buffers `s0` writes. -/
abbrev s0W : List (Ref sig .tc) :=
  [main_cst, main_v0, main_v1, main_call0_v0, main_call0_cst, main_call0_v1, main_call0_v2, main_v2, main_v3, main_v4]

/-- The first table's rows in the order of its labels. -/
abbrev t1 : List (HloOp τ sig (Elt F)) :=
  [ TRef.nullary main_call1.c (constantI S_ 32 0#32),
    TRef.unary main_call1.c main_call1.v0 (broadcastInDim S1000 ![] bcast_S_S1000),
    TRef.binary (.of main_arg3) main_call1.v0 main_call1.v1 (cmpi .slt),
    TRef.nullary main_call1.c_0 (constantI S_ 32 1000#32),
    TRef.unary main_call1.c_0 main_call1.v2 (broadcastInDim S1000 ![] bcast_S_S1000),
    TRef.binary (.of main_arg3) main_call1.v2 main_call1.v3 addi,
    TRef.ternary main_call1.v1 main_call1.v3 (.of main_arg3) main_call1.call0.v0 select,
    TRef.unary main_call1.call0.v0 main_call1.v5 (broadcastInDim S1000x1 ![0] bcast_S1000_S1000x1_0),
    TRef.nullary main_call1.c_1 (constantI S1 32 999#32),
    TRef.nullary main_call1.c_2 (constantI S_ 32 0#32),
    TRef.unary main_call1.c_2 main_call1.v6 (broadcastInDim S1000x1 ![] bcast_S_S1000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1000x1 ![0, 1] bcast_S1x1_S1000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1000x1_S1000_d1 h_S_),
    TRef.binary (.of main_arg1) main_call1.v5 main_call1.v13 (fun x i => Host.gather gather_S1000x1025_S1000x1_S1000x1025_1_0_n_n_0_1_11025 x i),
    TRef.unary main_call1.v12 main_call1.v14 (broadcastInDim S1000x1025 ![0] bcast_S1000_S1000x1025_0),
    TRef.nullary main_call1.cst (constant S_ .f32 0x7FC00000#32),
    TRef.unary main_call1.cst main_call1.v15 (broadcastInDim S1000x1025 ![] bcast_S_S1000x1025),
    TRef.ternary main_call1.v14 main_call1.v13 main_call1.v15 main_call1.v16 select ]

/-- The buffers `t1` writes. -/
abbrev t1W : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]

/-- The distances of the queries from the first table's rows. -/
abbrev d1 : List (HloOp τ sig (Elt F)) :=
  [ binary main_v4 main_v4 main_v6 (mulf : (⟨S16384x1025, .f32⟩ : BufTy).Contents (Elt F) → (⟨S16384x1025, .f32⟩ : BufTy).Contents (Elt F) → (⟨S16384x1025, .f32⟩ : BufTy).Contents (Elt F)),
    nullary main_cst_0 (constant S_ .f32 0x00000000#32),
    binary main_v6 main_cst_0 main_v7 ((fun x v => Host.reduceAdd x v reducesTo_S16384x1025_S16384_d1 h_S_) : (⟨S16384x1025, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    binary main_v5 main_v5 main_v9 (mulf : (⟨S1000x1025, .f32⟩ : BufTy).Contents (Elt F) → (⟨S1000x1025, .f32⟩ : BufTy).Contents (Elt F) → (⟨S1000x1025, .f32⟩ : BufTy).Contents (Elt F)),
    nullary main_cst_1 (constant S_ .f32 0x00000000#32),
    binary main_v9 main_cst_1 main_v10 ((fun x v => Host.reduceAdd x v reducesTo_S1000x1025_S1000_d1 h_S_) : (⟨S1000x1025, .f32⟩ : BufTy).Contents (Elt F) → (⟨S_, .f32⟩ : BufTy).Contents (Elt F) → (⟨S1000, .f32⟩ : BufTy).Contents (Elt F)),
    unary main_v10 main_v11 (broadcastInDim S1000x1 ![0] bcast_S1000_S1000x1_0 : (⟨S1000, .f32⟩ : BufTy).Contents (Elt F) → (⟨S1000x1, .f32⟩ : BufTy).Contents (Elt F)),
    unary main_v11 main_v12 ((transpose S1x1000 [1, 0] · transposes_S1000x1_S1x1000_1_0) : (⟨S1000x1, .f32⟩ : BufTy).Contents (Elt F) → (⟨S1x1000, .f32⟩ : BufTy).Contents (Elt F)),
    unary main_v8 main_v13 (broadcastInDim S16384x1000 ![0, 1] bcast_S16384x1_S16384x1000_0_1 : (⟨S16384x1, .f32⟩ : BufTy).Contents (Elt F) → (⟨S16384x1000, .f32⟩ : BufTy).Contents (Elt F)),
    unary main_v12 main_v14 (broadcastInDim S16384x1000 ![0, 1] bcast_S1x1000_S16384x1000_0_1 : (⟨S1x1000, .f32⟩ : BufTy).Contents (Elt F) → (⟨S16384x1000, .f32⟩ : BufTy).Contents (Elt F)),
    binary main_v13 main_v14 main_v15 (addf : (⟨S16384x1000, .f32⟩ : BufTy).Contents (Elt F) → (⟨S16384x1000, .f32⟩ : BufTy).Contents (Elt F) → (⟨S16384x1000, .f32⟩ : BufTy).Contents (Elt F)),
    unary main_v5 main_v16 ((transpose S1025x1000 [1, 0] · transposes_S1000x1025_S1025x1000_1_0) : (⟨S1000x1025, .f32⟩ : BufTy).Contents (Elt F) → (⟨S1025x1000, .f32⟩ : BufTy).Contents (Elt F)),
    binary main_v4 main_v16 main_v17 ((fun l r => Host.dotGeneral dot_S16384x1025_S1025x1000_S16384x1000_1_0_0_1_n_n none l r) : (⟨S16384x1025, .f32⟩ : BufTy).Contents (Elt F) → (⟨S1025x1000, .f32⟩ : BufTy).Contents (Elt F) → (⟨S16384x1000, .f32⟩ : BufTy).Contents (Elt F)),
    nullary main_cst_2 (constant S_ .f32 0x40000000#32),
    unary main_cst_2 main_v18 (broadcastInDim S16384x1000 ![] bcast_S_S16384x1000 : (⟨S_, .f32⟩ : BufTy).Contents (Elt F) → (⟨S16384x1000, .f32⟩ : BufTy).Contents (Elt F)),
    binary main_v18 main_v17 main_v19 (mulf : (⟨S16384x1000, .f32⟩ : BufTy).Contents (Elt F) → (⟨S16384x1000, .f32⟩ : BufTy).Contents (Elt F) → (⟨S16384x1000, .f32⟩ : BufTy).Contents (Elt F)),
    binary main_v15 main_v19 main_v20 (subf : (⟨S16384x1000, .f32⟩ : BufTy).Contents (Elt F) → (⟨S16384x1000, .f32⟩ : BufTy).Contents (Elt F) → (⟨S16384x1000, .f32⟩ : BufTy).Contents (Elt F)),
    nullary main_cst_3 (constant S_ .f32 0x00000000#32),
    unary main_cst_3 main_v21 (broadcastInDim S16384x1000 ![] bcast_S_S16384x1000 : (⟨S_, .f32⟩ : BufTy).Contents (Elt F) → (⟨S16384x1000, .f32⟩ : BufTy).Contents (Elt F)),
    binary main_v20 main_v21 main_v22 (maximumf : (⟨S16384x1000, .f32⟩ : BufTy).Contents (Elt F) → (⟨S16384x1000, .f32⟩ : BufTy).Contents (Elt F) → (⟨S16384x1000, .f32⟩ : BufTy).Contents (Elt F)),
    unary main_v22 main_v23 (Host.sqrt : (⟨S16384x1000, .f32⟩ : BufTy).Contents (Elt F) → (⟨S16384x1000, .f32⟩ : BufTy).Contents (Elt F)) ]

/-- The buffers `d1` writes. -/
abbrev d1W : List (Ref sig .tc) :=
  [main_v6, main_cst_0, main_v7, main_v8, main_v9, main_cst_1, main_v10, main_v11, main_v12, main_v13, main_v14, main_v15, main_v16, main_v17, main_cst_2, main_v18, main_v19, main_v20, main_cst_3, main_v21, main_v22, main_v23]

/-- The positions of the least distances. -/
abbrev m1 : List (HloOp τ sig (Elt F)) :=
  [ TRef.nullary main_call2.v0 (iotaInDim S16384x1000 32 1),
    TRef.nullary main_call2.cst (constant S_ .f32 0x7F800000#32),
    TRef.nullary main_call2.c (constantI S_ 32 0#32),
    TRef.quaternary (.of main_v23) main_call2.v0 main_call2.cst main_call2.c main_call2.v1_0 (fun x y u v j => (Host.argReduce reducer_argmin_f32_i32 x y u v reducesTo_S16384x1000_S16384_d1 h_S_ j).1),
    TRef.quaternary (.of main_v23) main_call2.v0 main_call2.cst main_call2.c main_call2.v1_1 (fun x y u v j => (Host.argReduce reducer_argmin_f32_i32 x y u v reducesTo_S16384x1000_S16384_d1 h_S_ j).2) ]

/-- The buffers `m1` writes. -/
abbrev m1W : List (Ref sig .tc) :=
  [main_call2_v0, main_call2_cst, main_call2_c, main_call2_v1_0, main_v24]

/-- The labels at those positions. -/
abbrev l1 : List (HloOp τ sig (Elt F)) :=
  [ TRef.nullary main_call3.c (constantI S_ 32 0#32),
    TRef.unary main_call3.c main_call3.v0 (broadcastInDim S16384 ![] bcast_S_S16384),
    TRef.binary (.of main_v24) main_call3.v0 main_call3.v1 (cmpi .slt),
    TRef.nullary main_call3.c_0 (constantI S_ 32 1000#32),
    TRef.unary main_call3.c_0 main_call3.v2 (broadcastInDim S16384 ![] bcast_S_S16384),
    TRef.binary (.of main_v24) main_call3.v2 main_call3.v3 addi,
    TRef.ternary main_call3.v1 main_call3.v3 (.of main_v24) main_call3.call0.v0 select,
    TRef.unary main_call3.call0.v0 main_call3.v5 (broadcastInDim S16384x1 ![0] bcast_S16384_S16384x1_0),
    TRef.nullary main_call3.c_1 (constantI S1 32 999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg3) main_call3.v5 main_call3.v13 (fun x i => Host.gather gather_S1000_S16384x1_S16384_n_0_n_n_0_1_1 x i),
    TRef.nullary main_call3.c_4 (constantI S_ 32 2147483648#32),
    TRef.unary main_call3.c_4 main_call3.v14 (broadcastInDim S16384 ![] bcast_S_S16384),
    TRef.ternary main_call3.v12 main_call3.v13 main_call3.v14 main_call3.v15 select ]

/-- The buffers `l1` writes. -/
abbrev l1W : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v25]

/-- The second table's rows in the order of its labels. -/
abbrev t2 : List (HloOp τ sig (Elt F)) :=
  [ TRef.nullary main_call4.c (constantI S_ 32 0#32),
    TRef.unary main_call4.c main_call4.v0 (broadcastInDim S1000 ![] bcast_S_S1000),
    TRef.binary (.of main_arg4) main_call4.v0 main_call4.v1 (cmpi .slt),
    TRef.nullary main_call4.c_0 (constantI S_ 32 1000#32),
    TRef.unary main_call4.c_0 main_call4.v2 (broadcastInDim S1000 ![] bcast_S_S1000),
    TRef.binary (.of main_arg4) main_call4.v2 main_call4.v3 addi,
    TRef.ternary main_call4.v1 main_call4.v3 (.of main_arg4) main_call4.call0.v0 select,
    TRef.unary main_call4.call0.v0 main_call4.v5 (broadcastInDim S1000x1 ![0] bcast_S1000_S1000x1_0),
    TRef.nullary main_call4.c_1 (constantI S1 32 999#32),
    TRef.nullary main_call4.c_2 (constantI S_ 32 0#32),
    TRef.unary main_call4.c_2 main_call4.v6 (broadcastInDim S1000x1 ![] bcast_S_S1000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S1000x1 ![0, 1] bcast_S1x1_S1000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S1000x1_S1000_d1 h_S_),
    TRef.binary (.of main_arg2) main_call4.v5 main_call4.v13 (fun x i => Host.gather gather_S1000x1025_S1000x1_S1000x1025_1_0_n_n_0_1_11025 x i),
    TRef.unary main_call4.v12 main_call4.v14 (broadcastInDim S1000x1025 ![0] bcast_S1000_S1000x1025_0),
    TRef.nullary main_call4.cst (constant S_ .f32 0x7FC00000#32),
    TRef.unary main_call4.cst main_call4.v15 (broadcastInDim S1000x1025 ![] bcast_S_S1000x1025),
    TRef.ternary main_call4.v14 main_call4.v13 main_call4.v15 main_call4.v16 select ]

/-- The buffers `t2` writes. -/
abbrev t2W : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v26]

/-- The distances of the queries from the second table's rows. -/
abbrev d2 : List (HloOp τ sig (Elt F)) :=
  [ binary main_v4 main_v4 main_v27 (mulf : (⟨S16384x1025, .f32⟩ : BufTy).Contents (Elt F) → (⟨S16384x1025, .f32⟩ : BufTy).Contents (Elt F) → (⟨S16384x1025, .f32⟩ : BufTy).Contents (Elt F)),
    nullary main_cst_4 (constant S_ .f32 0x00000000#32),
    binary main_v27 main_cst_4 main_v28 ((fun x v => Host.reduceAdd x v reducesTo_S16384x1025_S16384_d1 h_S_) : (⟨S16384x1025, .f32⟩ : BufTy).Contents (Elt F) → (⟨S_, .f32⟩ : BufTy).Contents (Elt F) → (⟨S16384, .f32⟩ : BufTy).Contents (Elt F)),
    unary main_v28 main_v29 (broadcastInDim S16384x1 ![0] bcast_S16384_S16384x1_0 : (⟨S16384, .f32⟩ : BufTy).Contents (Elt F) → (⟨S16384x1, .f32⟩ : BufTy).Contents (Elt F)),
    binary main_v26 main_v26 main_v30 (mulf : (⟨S1000x1025, .f32⟩ : BufTy).Contents (Elt F) → (⟨S1000x1025, .f32⟩ : BufTy).Contents (Elt F) → (⟨S1000x1025, .f32⟩ : BufTy).Contents (Elt F)),
    nullary main_cst_5 (constant S_ .f32 0x00000000#32),
    binary main_v30 main_cst_5 main_v31 ((fun x v => Host.reduceAdd x v reducesTo_S1000x1025_S1000_d1 h_S_) : (⟨S1000x1025, .f32⟩ : BufTy).Contents (Elt F) → (⟨S_, .f32⟩ : BufTy).Contents (Elt F) → (⟨S1000, .f32⟩ : BufTy).Contents (Elt F)),
    unary main_v31 main_v32 (broadcastInDim S1000x1 ![0] bcast_S1000_S1000x1_0 : (⟨S1000, .f32⟩ : BufTy).Contents (Elt F) → (⟨S1000x1, .f32⟩ : BufTy).Contents (Elt F)),
    unary main_v32 main_v33 ((transpose S1x1000 [1, 0] · transposes_S1000x1_S1x1000_1_0) : (⟨S1000x1, .f32⟩ : BufTy).Contents (Elt F) → (⟨S1x1000, .f32⟩ : BufTy).Contents (Elt F)),
    unary main_v29 main_v34 (broadcastInDim S16384x1000 ![0, 1] bcast_S16384x1_S16384x1000_0_1 : (⟨S16384x1, .f32⟩ : BufTy).Contents (Elt F) → (⟨S16384x1000, .f32⟩ : BufTy).Contents (Elt F)),
    unary main_v33 main_v35 (broadcastInDim S16384x1000 ![0, 1] bcast_S1x1000_S16384x1000_0_1 : (⟨S1x1000, .f32⟩ : BufTy).Contents (Elt F) → (⟨S16384x1000, .f32⟩ : BufTy).Contents (Elt F)),
    binary main_v34 main_v35 main_v36 (addf : (⟨S16384x1000, .f32⟩ : BufTy).Contents (Elt F) → (⟨S16384x1000, .f32⟩ : BufTy).Contents (Elt F) → (⟨S16384x1000, .f32⟩ : BufTy).Contents (Elt F)),
    unary main_v26 main_v37 ((transpose S1025x1000 [1, 0] · transposes_S1000x1025_S1025x1000_1_0) : (⟨S1000x1025, .f32⟩ : BufTy).Contents (Elt F) → (⟨S1025x1000, .f32⟩ : BufTy).Contents (Elt F)),
    binary main_v4 main_v37 main_v38 ((fun l r => Host.dotGeneral dot_S16384x1025_S1025x1000_S16384x1000_1_0_0_1_n_n none l r) : (⟨S16384x1025, .f32⟩ : BufTy).Contents (Elt F) → (⟨S1025x1000, .f32⟩ : BufTy).Contents (Elt F) → (⟨S16384x1000, .f32⟩ : BufTy).Contents (Elt F)),
    nullary main_cst_6 (constant S_ .f32 0x40000000#32),
    unary main_cst_6 main_v39 (broadcastInDim S16384x1000 ![] bcast_S_S16384x1000 : (⟨S_, .f32⟩ : BufTy).Contents (Elt F) → (⟨S16384x1000, .f32⟩ : BufTy).Contents (Elt F)),
    binary main_v39 main_v38 main_v40 (mulf : (⟨S16384x1000, .f32⟩ : BufTy).Contents (Elt F) → (⟨S16384x1000, .f32⟩ : BufTy).Contents (Elt F) → (⟨S16384x1000, .f32⟩ : BufTy).Contents (Elt F)),
    binary main_v36 main_v40 main_v41 (subf : (⟨S16384x1000, .f32⟩ : BufTy).Contents (Elt F) → (⟨S16384x1000, .f32⟩ : BufTy).Contents (Elt F) → (⟨S16384x1000, .f32⟩ : BufTy).Contents (Elt F)),
    nullary main_cst_7 (constant S_ .f32 0x00000000#32),
    unary main_cst_7 main_v42 (broadcastInDim S16384x1000 ![] bcast_S_S16384x1000 : (⟨S_, .f32⟩ : BufTy).Contents (Elt F) → (⟨S16384x1000, .f32⟩ : BufTy).Contents (Elt F)),
    binary main_v41 main_v42 main_v43 (maximumf : (⟨S16384x1000, .f32⟩ : BufTy).Contents (Elt F) → (⟨S16384x1000, .f32⟩ : BufTy).Contents (Elt F) → (⟨S16384x1000, .f32⟩ : BufTy).Contents (Elt F)),
    unary main_v43 main_v44 (Host.sqrt : (⟨S16384x1000, .f32⟩ : BufTy).Contents (Elt F) → (⟨S16384x1000, .f32⟩ : BufTy).Contents (Elt F)) ]

/-- The buffers `d2` writes. -/
abbrev d2W : List (Ref sig .tc) :=
  [main_v27, main_cst_4, main_v28, main_v29, main_v30, main_cst_5, main_v31, main_v32, main_v33, main_v34, main_v35, main_v36, main_v37, main_v38, main_cst_6, main_v39, main_v40, main_v41, main_cst_7, main_v42, main_v43, main_v44]

/-- The positions of the least distances. -/
abbrev m2 : List (HloOp τ sig (Elt F)) :=
  [ TRef.nullary main_call5.v0 (iotaInDim S16384x1000 32 1),
    TRef.nullary main_call5.cst (constant S_ .f32 0x7F800000#32),
    TRef.nullary main_call5.c (constantI S_ 32 0#32),
    TRef.quaternary (.of main_v44) main_call5.v0 main_call5.cst main_call5.c main_call5.v1_0 (fun x y u v j => (Host.argReduce reducer_argmin_f32_i32 x y u v reducesTo_S16384x1000_S16384_d1 h_S_ j).1),
    TRef.quaternary (.of main_v44) main_call5.v0 main_call5.cst main_call5.c main_call5.v1_1 (fun x y u v j => (Host.argReduce reducer_argmin_f32_i32 x y u v reducesTo_S16384x1000_S16384_d1 h_S_ j).2) ]

/-- The buffers `m2` writes. -/
abbrev m2W : List (Ref sig .tc) :=
  [main_call5_v0, main_call5_cst, main_call5_c, main_call5_v1_0, main_v45]

/-- The labels at those positions. -/
abbrev l2 : List (HloOp τ sig (Elt F)) :=
  [ TRef.nullary main_call6.c (constantI S_ 32 0#32),
    TRef.unary main_call6.c main_call6.v0 (broadcastInDim S16384 ![] bcast_S_S16384),
    TRef.binary (.of main_v45) main_call6.v0 main_call6.v1 (cmpi .slt),
    TRef.nullary main_call6.c_0 (constantI S_ 32 1000#32),
    TRef.unary main_call6.c_0 main_call6.v2 (broadcastInDim S16384 ![] bcast_S_S16384),
    TRef.binary (.of main_v45) main_call6.v2 main_call6.v3 addi,
    TRef.ternary main_call6.v1 main_call6.v3 (.of main_v45) main_call6.call0.v0 select,
    TRef.unary main_call6.call0.v0 main_call6.v5 (broadcastInDim S16384x1 ![0] bcast_S16384_S16384x1_0),
    TRef.nullary main_call6.c_1 (constantI S1 32 999#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary (.of main_arg4) main_call6.v5 main_call6.v13 (fun x i => Host.gather gather_S1000_S16384x1_S16384_n_0_n_n_0_1_1 x i),
    TRef.nullary main_call6.c_4 (constantI S_ 32 2147483648#32),
    TRef.unary main_call6.c_4 main_call6.v14 (broadcastInDim S16384 ![] bcast_S_S16384),
    TRef.ternary main_call6.v12 main_call6.v13 main_call6.v14 main_call6.v15 select ]

/-- The buffers `l2` writes. -/
abbrev l2W : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_c_4, main_call6_v14, main_v46]

/-- All of the reference's operations, in order. -/
abbrev ops : List (HloOp τ sig (Elt F)) :=
  s0 ++ (t1 ++ (d1 ++ (m1 ++ (l1 ++ (t2 ++ (d2 ++ (m2 ++ l2)))))))

theorem main_eq (c : Dev nD) : main (F := F) c = seq ops := by
  simp only [main, fn_norm.body, fn_where.body, fn_take.body, fn_argmin.body, fn_where_1.body, fn_take_0.body, ops,
    List.cons_append, List.nil_append, seq, bind_assoc, pure_bind]

theorem s0_sub : (s0 : List (HloOp τ sig (Elt F))).Forall fun op => op.bufs ⊆ tcRefs τ sig :=
  ⟨nullary_bufs_sub .., unary_bufs_sub .., binary_bufs_sub .., binary_bufs_sub .., nullary_bufs_sub .., binary_bufs_sub .., unary_bufs_sub .., unary_bufs_sub .., unary_bufs_sub .., binary_bufs_sub ..⟩

theorem s0_keep {r : Ref sig .tc} (hr : r ∉ s0W) (V : Valuation τ sig (Elt F)) :
    after s0 V (r : DevRef τ sig) = V (r : DevRef τ sig) :=
  after_unwritten s0W rfl hr V

theorem t1_sub : (t1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem t1_keep {r : Ref sig .tc} (hr : r ∉ t1W) (V : Valuation τ sig (Elt F)) :
    after t1 V (r : DevRef τ sig) = V (r : DevRef τ sig) :=
  after_unwritten t1W rfl hr V

theorem d1_sub : (d1 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

theorem d1_keep {r : Ref sig .tc} (hr : r ∉ d1W) (V : Valuation τ sig (Elt F)) :
    after d1 V (r : DevRef τ sig) = V (r : DevRef τ sig) :=
  after_unwritten d1W rfl hr V

theorem m1_sub : (m1 : List (HloOp τ sig (Elt F))).Forall fun op => op.bufs ⊆ tcRefs τ sig :=
  ⟨nullary_bufs_sub .., nullary_bufs_sub .., nullary_bufs_sub .., quaternary_bufs_sub .., quaternary_bufs_sub ..⟩

theorem m1_keep {r : Ref sig .tc} (hr : r ∉ m1W) (V : Valuation τ sig (Elt F)) :
    after m1 V (r : DevRef τ sig) = V (r : DevRef τ sig) :=
  after_unwritten m1W rfl hr V

theorem l1_sub : (l1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem l1_keep {r : Ref sig .tc} (hr : r ∉ l1W) (V : Valuation τ sig (Elt F)) :
    after l1 V (r : DevRef τ sig) = V (r : DevRef τ sig) :=
  after_unwritten l1W rfl hr V

theorem t2_sub : (t2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem t2_keep {r : Ref sig .tc} (hr : r ∉ t2W) (V : Valuation τ sig (Elt F)) :
    after t2 V (r : DevRef τ sig) = V (r : DevRef τ sig) :=
  after_unwritten t2W rfl hr V

theorem d2_sub : (d2 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

theorem d2_keep {r : Ref sig .tc} (hr : r ∉ d2W) (V : Valuation τ sig (Elt F)) :
    after d2 V (r : DevRef τ sig) = V (r : DevRef τ sig) :=
  after_unwritten d2W rfl hr V

theorem m2_sub : (m2 : List (HloOp τ sig (Elt F))).Forall fun op => op.bufs ⊆ tcRefs τ sig :=
  ⟨nullary_bufs_sub .., nullary_bufs_sub .., nullary_bufs_sub .., quaternary_bufs_sub .., quaternary_bufs_sub ..⟩

theorem m2_keep {r : Ref sig .tc} (hr : r ∉ m2W) (V : Valuation τ sig (Elt F)) :
    after m2 V (r : DevRef τ sig) = V (r : DevRef τ sig) :=
  after_unwritten m2W rfl hr V

theorem l2_sub : (l2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem l2_keep {r : Ref sig .tc} (hr : r ∉ l2W) (V : Valuation τ sig (Elt F)) :
    after l2 V (r : DevRef τ sig) = V (r : DevRef τ sig) :=
  after_unwritten l2W rfl hr V

theorem ops_sub : (ops : List (HloOp τ sig (Elt F))).Forall fun op => op.bufs ⊆ tcRefs τ sig := by
  simp only [ops, List.forall_append]
  exact ⟨s0_sub, t1_sub, d1_sub, m1_sub, l1_sub, t2_sub, d2_sub, m2_sub, l2_sub⟩

theorem scopedRefs_eq : (Finset.univ.filter fun b : Ref sig .tc => b.isScoped) = ∅ := by decide +kernel
theorem scopedSems_eq : (Finset.univ.filter fun sm : SemLoc sig => sm.isScoped .tc) = ∅ := by decide +kernel

/-! ## The lines' values -/

/-- A query with the entry `1` after its last. -/
def ext (x : FVec F S16384x1024 .f32) : FVec F S16384x1025 .f32 :=
  concatenate S16384x1025 1 [⟨S16384x1024, x⟩,
    ⟨S16384x1, broadcastInDim S16384x1 ![] bcast_S_S16384x1 (constant S_ .f32 0x3F800000#32)⟩]
    concatenates_S16384x1024_S16384x1_S16384x1025_d1

/-- Each lengthened query's sum of squares. -/
def sumSq (x : FVec F S16384x1025 .f32) : FVec F S16384 .f32 :=
  Host.reduceAdd (mulf x x) (constant S_ .f32 0x00000000#32) reducesTo_S16384x1025_S16384_d1 h_S_

/-- The lengthened queries, each divided by its length. -/
def unitRows (x : FVec F S16384x1024 .f32) : FVec F S16384x1025 .f32 :=
  Host.divf (ext x) (broadcastInDim S16384x1025 ![0, 1] bcast_S16384x1_S16384x1025_0_1
    (Host.sqrt (broadcastInDim S16384x1 ![0] bcast_S16384_S16384x1_0 (sumSq (ext x)))))

/-- The rows a vector of labels asks for, a negative one counted from the end. -/
def takeIdx (l : IVec S1000 32) : IVec S1000x1 32 :=
  broadcastInDim S1000x1 ![0] bcast_S1000_S1000x1_0
    (select (cmpi .slt l (broadcastInDim S1000 ![] bcast_S_S1000 (constantI S_ 32 0#32)))
      (addi l (broadcastInDim S1000 ![] bcast_S_S1000 (constantI S_ 32 1000#32))) l)

/-- Which of the rows asked for the table has. -/
def takeIn (i : IVec S1000x1 32) : IVec S1000 1 :=
  Host.reduce IntOp.andi
    (andi (cmpi .sge i (broadcastInDim S1000x1 ![] bcast_S_S1000x1 (constantI S_ 32 0#32)))
      (cmpi .sle i (broadcastInDim S1000x1 ![0, 1] bcast_S1x1_S1000x1_0_1
        (broadcastInDim S1x1 ![1] bcast_S1_S1x1_1 (constantI S1 32 999#32)))))
    (constantI S_ 1 1#1) reducesTo_S1000x1_S1000_d1 h_S_

/-- The table's rows in the order of the labels. -/
def taken (c : FVec F S1000x1025 .f32) (l : IVec S1000 32) : FVec F S1000x1025 .f32 :=
  select (broadcastInDim S1000x1025 ![0] bcast_S1000_S1000x1025_0 (takeIn (takeIdx l)))
    (Host.gather gather_S1000x1025_S1000x1_S1000x1025_1_0_n_n_0_1_11025 c (takeIdx l))
    (broadcastInDim S1000x1025 ![] bcast_S_S1000x1025 (constant S_ .f32 0x7FC00000#32))

/-- Each row's sum of squares. -/
def rowSq (b : FVec F S1000x1025 .f32) : FVec F S1000 .f32 :=
  Host.reduceAdd (mulf b b) (constant S_ .f32 0x00000000#32) reducesTo_S1000x1025_S1000_d1 h_S_

/-- The products of the queries with the rows. -/
def dots (a : FVec F S16384x1025 .f32) (b : FVec F S1000x1025 .f32) : FVec F S16384x1000 .f32 :=
  Host.dotGeneral dot_S16384x1025_S1025x1000_S16384x1000_1_0_0_1_n_n none a
    (transpose S1025x1000 [1, 0] b transposes_S1000x1025_S1025x1000_1_0)

/-- The distances of the queries from the rows. -/
def distances (a : FVec F S16384x1025 .f32) (b : FVec F S1000x1025 .f32) : FVec F S16384x1000 .f32 :=
  Host.sqrt (maximumf
    (subf
      (addf
        (broadcastInDim S16384x1000 ![0, 1] bcast_S16384x1_S16384x1000_0_1
          (broadcastInDim S16384x1 ![0] bcast_S16384_S16384x1_0 (sumSq a)))
        (broadcastInDim S16384x1000 ![0, 1] bcast_S1x1000_S16384x1000_0_1
          (transpose S1x1000 [1, 0] (broadcastInDim S1000x1 ![0] bcast_S1000_S1000x1_0 (rowSq b))
            transposes_S1000x1_S1x1000_1_0)))
      (mulf (broadcastInDim S16384x1000 ![] bcast_S_S16384x1000 (constant S_ .f32 0x40000000#32)) (dots a b)))
    (broadcastInDim S16384x1000 ![] bcast_S_S16384x1000 (constant S_ .f32 0x00000000#32)))

/-- The position of each query's least distance. -/
def nearest (d : FVec F S16384x1000 .f32) : IVec S16384 32 := fun j =>
  (Host.argReduce reducer_argmin_f32_i32 d (iotaInDim S16384x1000 32 1) (constant S_ .f32 0x7F800000#32)
    (constantI S_ 32 0#32) reducesTo_S16384x1000_S16384_d1 h_S_ j).2

/-- The labels a vector of positions asks for, a negative one counted from the end. -/
def labelIdx (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1000#32))) i)

/-- Which of the positions asked for lie among the labels. -/
def labelIn (i : IVec S16384x1 32) : IVec S16384 1 :=
  Host.reduce IntOp.andi
    (andi (cmpi .sge i (broadcastInDim S16384x1 ![] bcast_S_S16384x1 (constantI S_ 32 0#32)))
      (cmpi .sle i (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

/-- The labels at the positions asked for. -/
def labelled (l : IVec S1000 32) (i : IVec S16384 32) : IVec S16384 32 :=
  select (labelIn (labelIdx i)) (Host.gather gather_S1000_S16384x1_S16384_n_0_n_n_0_1_1 l (labelIdx i))
    (broadcastInDim S16384 ![] bcast_S_S16384 (constantI S_ 32 2147483648#32))

/-- One result: the label of the nearest row, for each query. -/
def predicted (x : FVec F S16384x1024 .f32) (c : FVec F S1000x1025 .f32) (l : IVec S1000 32) : IVec S16384 32 :=
  labelled l (nearest (distances (unitRows x) (taken c l)))

theorem s0_val (V : Valuation τ sig (Elt F)) :
    after s0 V (main_v4 : DevRef τ sig) = unitRows (V (main_arg0 : DevRef τ sig)) := by
  after_results_simp
  rfl

theorem t1_val (V : Valuation τ sig (Elt F)) :
    after t1 V (main_v5 : DevRef τ sig) = taken (V (main_arg1 : DevRef τ sig)) (V (main_arg3 : DevRef τ sig)) := by
  after_results_simp
  rfl

theorem d1_val (V : Valuation τ sig (Elt F)) :
    after d1 V (main_v23 : DevRef τ sig) = distances (V (main_v4 : DevRef τ sig)) (V (main_v5 : DevRef τ sig)) := by
  after_results_simp
  rfl

theorem m1_val (V : Valuation τ sig (Elt F)) :
    after m1 V (main_v24 : DevRef τ sig) = nearest (V (main_v23 : DevRef τ sig)) := by
  after_results_simp
  rfl

theorem l1_val (V : Valuation τ sig (Elt F)) :
    after l1 V (main_v25 : DevRef τ sig) = labelled (V (main_arg3 : DevRef τ sig)) (V (main_v24 : DevRef τ sig)) := by
  after_results_simp
  simp only [TRef.ofBuf_toBuf]
  unfold labelled labelIn labelIdx
  simp only [TRef.toBuf, TRef.ofBuf, cast_eq, eq_mpr_eq_cast]

theorem t2_val (V : Valuation τ sig (Elt F)) :
    after t2 V (main_v26 : DevRef τ sig) = taken (V (main_arg2 : DevRef τ sig)) (V (main_arg4 : DevRef τ sig)) := by
  after_results_simp
  rfl

theorem d2_val (V : Valuation τ sig (Elt F)) :
    after d2 V (main_v44 : DevRef τ sig) = distances (V (main_v4 : DevRef τ sig)) (V (main_v26 : DevRef τ sig)) := by
  after_results_simp
  rfl

theorem m2_val (V : Valuation τ sig (Elt F)) :
    after m2 V (main_v45 : DevRef τ sig) = nearest (V (main_v44 : DevRef τ sig)) := by
  after_results_simp
  rfl

theorem l2_val (V : Valuation τ sig (Elt F)) :
    after l2 V (main_v46 : DevRef τ sig) = labelled (V (main_arg4 : DevRef τ sig)) (V (main_v45 : DevRef τ sig)) := by
  after_results_simp
  simp only [TRef.ofBuf_toBuf]
  unfold labelled labelIn labelIdx
  simp only [TRef.toBuf, TRef.ofBuf, cast_eq, eq_mpr_eq_cast]

/-! ## The whole -/

/-- A reference no line writes keeps what it held. -/
theorem ops_keep {r : Ref sig .tc} (h : r ∉ s0W ++ t1W ++ d1W ++ m1W ++ l1W ++ t2W ++ d2W ++ m2W ++ l2W)
    (V : Valuation τ sig (Elt F)) : after ops V (r : DevRef τ sig) = V (r : DevRef τ sig) := by
  simp only [List.mem_append, not_or] at h
  obtain ⟨⟨⟨⟨⟨⟨⟨⟨h0, h1⟩, h2⟩, h3⟩, h4⟩, h5⟩, h6⟩, h7⟩, h8⟩ := h
  simp only [ops, after_append]
  rw [l2_keep h8, m2_keep h7, d2_keep h6, t2_keep h5, l1_keep h4, m1_keep h3, d1_keep h2, t1_keep h1, s0_keep h0]

/-- The result over the first table. -/
theorem first_val (V : Valuation τ sig (Elt F)) : after ops V (main_v25 : DevRef τ sig)
    = predicted (V (main_arg0 : DevRef τ sig)) (V (main_arg1 : DevRef τ sig)) (V (main_arg3 : DevRef τ sig)) := by
  simp only [ops, after_append]
  rw [l2_keep (by decide), m2_keep (by decide), d2_keep (by decide), t2_keep (by decide), l1_val,
    m1_val, m1_keep (r := main_arg3) (by decide), d1_val, d1_keep (r := main_arg3) (by decide),
    t1_val, t1_keep (r := main_arg3) (by decide), t1_keep (r := main_v4) (by decide), s0_val,
    s0_keep (r := main_arg3) (by decide), s0_keep (r := main_arg1) (by decide)]
  rfl

/-- The result over the second table. -/
theorem second_val (V : Valuation τ sig (Elt F)) : after ops V (main_v46 : DevRef τ sig)
    = predicted (V (main_arg0 : DevRef τ sig)) (V (main_arg2 : DevRef τ sig)) (V (main_arg4 : DevRef τ sig)) := by
  have far (r : Ref sig .tc) (h0 : r ∉ s0W) (h1 : r ∉ t1W) (h2 : r ∉ d1W) (h3 : r ∉ m1W) (h4 : r ∉ l1W) :
      after l1 (after m1 (after d1 (after t1 (after s0 V)))) (r : DevRef τ sig) = V (r : DevRef τ sig) := by
    rw [l1_keep h4, m1_keep h3, d1_keep h2, t1_keep h1, s0_keep h0]
  simp only [ops, after_append]
  rw [l2_val, m2_val, m2_keep (r := main_arg4) (by decide), d2_val, d2_keep (r := main_arg4) (by decide),
    t2_val, t2_keep (r := main_arg4) (by decide), t2_keep (r := main_v4) (by decide),
    far main_arg4 (by decide) (by decide) (by decide) (by decide) (by decide),
    far main_arg2 (by decide) (by decide) (by decide) (by decide) (by decide),
    l1_keep (r := main_v4) (by decide), m1_keep (r := main_v4) (by decide), d1_keep (r := main_v4) (by decide),
    t1_keep (r := main_v4) (by decide), s0_val]
  rfl

/-- From any memory with zero counters the reference ends with both results as named, its arguments as they were, and no
    counter raised. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RValue.lean ====
/-
  The reference's results read at a query, with the labels 0 to 999 in order: the table's own rows, the distances by their
  sums, and the position of the least distance as the label itself.
-/
module

public import proofs.«01_k».proof.Proof.RRun
public import proofs.«01_k».proof.Proof.First
public import proofs.«01_k».proof.Proof.Numbers
public import Idealize.ShloMosaic.Lib.Pointwise
public import Idealize.ShloMosaic.Lib.ValueIdx
public import Idealize.ShloMosaic.Lib.Routing.OpsSearch
public import Idealize.ShloMosaic.PureOps.Ideal.Laws

@[expose] public section

set_option maxRecDepth 16384

noncomputable section

namespace Cert.ReferenceIdeal.Hand

open Cert.ReferenceIdeal Cert.ReferenceIdeal.Gen Cert.FirstLeast
open Idealize.ShloMosaic Idealize.ShloMosaic.TcCoe Idealize.ShloMosaic.Tactic

/-! ## Words below 1000 -/

/-- jnp's negative index rule leaves a word below 1000 alone, and the word lies in the table. -/
theorem in_table : ∀ k : Fin 1000,
    Scalar.select (IntOp.cmpi .slt (BitVec.ofNat 32 k.val) 0#32) (IntOp.addi (BitVec.ofNat 32 k.val) 1000#32) (BitVec.ofNat 32 k.val)
        = BitVec.ofNat 32 k.val
      ∧ IntOp.andi (IntOp.cmpi .sge (BitVec.ofNat 32 k.val) 0#32) (IntOp.cmpi .sle (BitVec.ofNat 32 k.val) 999#32) = 1#1 := by
  decide +kernel

/-! ## The takes -/

theorem takeIdx_apply (l : IVec S1000 32) (k k' : Fin 1000) (h : l (ix1 k) = BitVec.ofNat 32 k'.val) :
    takeIdx l (ix2 k 0) = BitVec.ofNat 32 k'.val := by
  pointwise [takeIdx]
  rw [h, (in_table k').1]

theorem takeIn_apply (l : IVec S1000 32) (k k' : Fin 1000) (h : l (ix1 k) = BitVec.ofNat 32 k'.val) :
    takeIn (takeIdx l) (ix1 k) = 1#1 := by
  pointwise [takeIn, takeIdx]
  rw [h, (in_table k').1, (in_table k').2]
  rfl

/-- With the labels in order, the rows taken are the table's. -/
theorem taken_apply (c : FVec Ideal S1000x1025 .f32) (l : IVec S1000 32) (hl : ∀ k : Fin 1000, l (ix1 k) = BitVec.ofNat 32 k.val)
    (k : Fin 1000) (d : Fin 1025) : taken c l (ix2 k d) = c (ix2 k d) := by
  pointwise [taken]
  rw [takeIn_apply l k k (hl k)]
  show Host.gather gather_S1000x1025_S1000x1_S1000x1025_1_0_n_n_0_1_11025 c (takeIdx l) (ix2 k d) = _
  unfold Host.gather
  refine congrArg c (funext fun a => Fin.ext ?_)
  have hi := takeIdx_apply l k k (hl k)
  have h01 : a = 0 ∨ a = 1 := by
    match a with
    | ⟨0, _⟩ => exact Or.inl rfl
    | ⟨1, _⟩ => exact Or.inr rfl
  set G := gather_S1000x1025_S1000x1_S1000x1025_1_0_n_n_0_1_11025 with hG
  show G.start (ix2 k d) (takeIdx l) a + G.batchCoord (ix2 k d) a + G.offCoord (ix2 k d) a = _
  rw [GatherDims.batchCoord_eq_zero _ _ _ (fun h => by simp [hG, gather_S1000x1025_S1000x1_S1000x1025_1_0_n_n_0_1_11025] at h)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ G.startIndexMap from List.mem_singleton.mpr rfl)]
    have hsi : G.siIdx (ix2 k d) ⟨List.idxOf (0 : Fin 2) G.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi, hi, toInt_ofNat_small (by have := k.isLt; omega), Int.toNat_natCast]
    show min k.val 999 + 0 + 0 = k.val
    have := k.isLt
    omega
  · have h0 : G.start (ix2 k d) (takeIdx l) 1 = 0 := by
      unfold GatherDims.start
      rw [dif_neg (show ¬ (1 : Fin 2) ∈ G.startIndexMap from by decide)]
    rw [h0]
    have h1 : G.offCoord (ix2 k d) 1 = d.val := by
      unfold GatherDims.offCoord
      rw [dif_pos (show (1 : Fin 2) ∈ G.sKept from by decide)]
      rfl
    rw [h1]
    show 0 + 0 + d.val = d.val
    omega

theorem labelIdx_apply (i : IVec S16384 32) (q : Fin 16384) (k : Fin 1000) (h : i (ix1 q) = BitVec.ofNat 32 k.val) :
    labelIdx i (ix2 q 0) = BitVec.ofNat 32 k.val := by
  pointwise [labelIdx]
  rw [h, (in_table k).1]

theorem labelIn_apply (i : IVec S16384 32) (q : Fin 16384) (k : Fin 1000) (h : i (ix1 q) = BitVec.ofNat 32 k.val) :
    labelIn (labelIdx i) (ix1 q) = 1#1 := by
  pointwise [labelIn, labelIdx]
  rw [h, (in_table k).1, (in_table k).2]
  rfl

/-- With the labels in order, the label at a position is the position. -/
theorem labelled_apply (l : IVec S1000 32) (hl : ∀ k : Fin 1000, l (ix1 k) = BitVec.ofNat 32 k.val) (i : IVec S16384 32)
    (q : Fin 16384) (k : Fin 1000) (h : i (ix1 q) = BitVec.ofNat 32 k.val) : labelled l i (ix1 q) = BitVec.ofNat 32 k.val := by
  pointwise [labelled]
  rw [labelIn_apply i q k h]
  refine Eq.trans ?_ (hl k)
  refine (Routing.take_ap gather_S1000_S16384x1_S16384_n_0_n_n_0_1_1 rfl rfl rfl rfl l (labelIdx i) q k.isLt (by have := k.isLt; omega) ?_).trans ?_
  · exact labelIdx_apply i q k h
  · rfl

/-! ## The search -/

/-- The reference's body keeps one of two pairs, never the worse. -/
theorem reducer_keeps (p q : EReal × BitVec 32) :
    (reducer_argmin_f32_i32 (F := Ideal) p q = p ∧ NoWorse p q) ∨ (reducer_argmin_f32_i32 (F := Ideal) p q = q ∧ NoWorse q p) := by
  obtain ⟨a, i⟩ := p
  obtain ⟨b, k⟩ := q
  unfold reducer_argmin_f32_i32 NoWorse
  simp only [Ideal.cmpf_def, Ideal.cmp]
  rcases lt_trichotomy a b with h | h | h
  · left; simp [h, h.ne, Scalar.select, IntOp.ori, IntOp.andi]
  · subst h
    by_cases hik : i.toInt < k.toInt
    · left; simp [Scalar.select, IntOp.ori, IntOp.andi, IntOp.cmpi, BitVec.slt, hik, hik.le]
    · right; simp [Scalar.select, IntOp.ori, IntOp.andi, IntOp.cmpi, BitVec.slt, hik, not_lt.mp hik]
  · right; simp [h, h.not_gt, h.ne', Scalar.select, IntOp.ori, IntOp.andi]

/-- The place a search for the least finds, as a fold over the (number, place) pairs. -/
theorem argReduce_fold {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t) (hu : 0 < u.numel) (j : t.Idx) :
    (Host.argReduce (F := Ideal) (φ := .f32) f x y ix iy h hu j).2
      = ((Host.argReduceFiber x y h j).foldl f (ix (Shape.Idx.first hu), iy (Shape.Idx.first hu))).2 := by
  rw [Ideal.argReduce_eq_reduce2, Host.reduce2_eq_foldl_fiber]

/-- The search along one axis finds the first place of the least. Stated at any shape. -/
theorem search_fold {s t u : Shape} {a : Fin s.rank} (x : FVec Ideal s .f32) (y : IVec s 32) (ix : FVec Ideal u .f32) (iy : IVec u 32)
   (h : s.ReducesTo [a] t) (hu : 0 < u.numel) (j : t.Idx) (h' : s.Reduces [a] t)
   (hn : s.size a ≤ 1024) (hix : ∀ i, ix i = (⊤ : EReal)) (hiy : ∀ i, iy i = 0#32)
   (hd : ∀ k, (x (h'.lift j k) : EReal) < ⊤) (hy : ∀ k, y (h'.lift j k) = BitVec.ofNat 32 k.val)
   {p : Fin (s.size a)} (hp : IsFirst (fun k => (x (h'.lift j k) : EReal)) p) :
   (Host.argReduce (F := Ideal) (φ := .f32) reducer_argmin_f32_i32 x y ix iy h hu j).2 = BitVec.ofNat 32 p.val := by
  rw [argReduce_fold, hix, hiy]
  refine first_by_pairs hn reducer_keeps _ hd hp _ fun q => ?_
  unfold Host.argReduceFiber
  simp only [List.mem_map, List.mem_filter, List.mem_finRange, true_and, decide_eq_true_eq]
  constructor
  · rintro ⟨n, hn, rfl⟩
    rw [Shape.ReducesTo.drop_eq_drop h h'] at hn
    have : s.rowMajor.symm n ∈ Finset.univ.filter fun i => h'.drop i = j := by simp [hn]
    rw [h'.filter_drop_eq_image_lift j] at this
    obtain ⟨k, -, hk⟩ := Finset.mem_image.mp this
    exact ⟨k, by rw [← hk, hy]⟩
  · rintro ⟨k, rfl⟩
    have : h'.lift j k ∈ Finset.univ.filter fun i => h'.drop i = j := by
      rw [h'.filter_drop_eq_image_lift j]; exact Finset.mem_image_of_mem _ (Finset.mem_univ _)
    refine ⟨s.rowMajor (h'.lift j k), ?_, ?_⟩
    · rw [Shape.ReducesTo.drop_eq_drop h h', Equiv.symm_apply_apply]; simpa using this
    · rw [Equiv.symm_apply_apply, hy]

/-- The bits the search starts from are `⊤`. -/
theorem inf_top : (Ideal.ofBits .f32 0x7F800000#32 : EReal) = ⊤ := by simp [Ideal.ofBits, Ideal.ieee]

/-- The definition, applied. -/
theorem nearest_eq {F : FTy → Type} [FloatOps F] (d : FVec F S16384x1000 .f32) :
    nearest d = fun j => (Host.argReduce reducer_argmin_f32_i32 d (iotaInDim S16384x1000 32 1) (constant S_ .f32 0x7F800000#32)
      (constantI S_ 32 0#32) reducesTo_S16384x1000_S16384_d1 h_S_ j).2 := rfl

/-- `search_fold` of a vector known to be the search. -/
theorem search_of_eq {s t u : Shape} {a : Fin s.rank} {x : FVec Ideal s .f32} {y : IVec s 32} {ix : FVec Ideal u .f32} {iy : IVec u 32}
    {h : s.ReducesTo [a] t} {hu : 0 < u.numel} {g : IVec t 32}
    (hg : g = fun j => (Host.argReduce (F := Ideal) (φ := .f32) reducer_argmin_f32_i32 x y ix iy h hu j).2) (j : t.Idx)
    (h' : s.Reduces [a] t) (hn : s.size a ≤ 1024) (hix : ∀ i, ix i = (⊤ : EReal)) (hiy : ∀ i, iy i = 0#32)
    (hd : ∀ k, (x (h'.lift j k) : EReal) < ⊤) (hy : ∀ k, y (h'.lift j k) = BitVec.ofNat 32 k.val)
    {p : Fin (s.size a)} (hp : IsFirst (fun k => (x (h'.lift j k) : EReal)) p) : g j = BitVec.ofNat 32 p.val := by
  rw [hg]; exact search_fold x y ix iy h hu j h' hn hix hiy hd hy hp

theorem nearest_apply (d : FVec Ideal S16384x1000 .f32) (q : Fin 16384) (hd : ∀ k : Fin 1000, (d (ix2 q k) : EReal) < ⊤)
    {j : Fin 1000} (hj : IsFirst (fun k : Fin 1000 => (d (ix2 q k) : EReal)) j) :
    nearest d (ix1 q) = BitVec.ofNat 32 j.val := by
  have hr : Shape.Reduces S16384x1000 [1] S16384 := by decide
  have hlift : ∀ k : Fin 1000, hr.lift (ix1 q) k = ix2 q k := fun k => by
    funext a; match a with | ⟨0, _⟩ => rfl | ⟨1, _⟩ => rfl
  have hd' : ∀ k : Fin 1000, (d (hr.lift (ix1 q) k) : EReal) < ⊤ := fun k => by rw [hlift k]; exact hd k
  have hy : ∀ k : Fin 1000, iotaInDim S16384x1000 32 1 (hr.lift (ix1 q) k) = BitVec.ofNat 32 k.val := fun k => by
    rw [hlift k]; rfl
  have hp : IsFirst (fun k : Fin 1000 => (d (hr.lift (ix1 q) k) : EReal)) j := by
    rw [show (fun k : Fin 1000 => (d (hr.lift (ix1 q) k) : EReal)) = fun k => d (ix2 q k) from funext fun k => by rw [hlift k]]
    exact hj
  exact search_of_eq (a := 1) (nearest_eq (F := Ideal) d) (ix1 q) hr (by decide) (fun _ => inf_top) (fun _ => rfl) hd' hy hp

/-! ## The distances -/

theorem unitRows_apply (x : FVec Ideal S16384x1024 .f32) (q : Fin 16384) (X : Fin 1024 → ℝ)
    (hx : ∀ d, x (ix2 q d) = (X d : EReal)) (e : Fin 1025) :
    unitRows x (ix2 q e) = ((Numbers.unit X e : ℝ) : EReal) := by
  pointwise [unitRows, ext, sumSq]
  exact Numbers.unit_coe (fun d => x (ix2 q d)) X hx e

theorem distances_apply (x : FVec Ideal S16384x1024 .f32) (b : FVec Ideal S1000x1025 .f32) (q : Fin 16384) (X : Fin 1024 → ℝ)
    (hx : ∀ d, x (ix2 q d) = (X d : EReal)) (k : Fin 1000) (C : Fin 1025 → ℝ) (hc : ∀ e, b (ix2 k e) = (C e : EReal)) :
    distances (unitRows x) b (ix2 q k) = ((√(Numbers.gap X C) : ℝ) : EReal) := by
  pointwise [distances, sumSq, rowSq, dots]
  exact Numbers.distance_coe X (fun e => b (ix2 k e)) C (fun e => unitRows x (ix2 q e)) (fun e => unitRows_apply x q X hx e) hc

/-- A result of the reference at a query: the row whose squared distance is the first least. -/
theorem predicted_apply (x : FVec Ideal S16384x1024 .f32) (c : FVec Ideal S1000x1025 .f32) (l : IVec S1000 32)
    (hl : ∀ k : Fin 1000, l (ix1 k) = BitVec.ofNat 32 k.val) (q : Fin 16384) (X : Fin 1024 → ℝ)
    (hx : ∀ d, x (ix2 q d) = (X d : EReal)) (C : Fin 1000 → Fin 1025 → ℝ) (hc : ∀ k e, c (ix2 k e) = (C k e : EReal))
    {j : Fin 1000} (hj : IsFirst (fun k : Fin 1000 => ((√(Numbers.gap X (C k)) : ℝ) : EReal)) j) :
    predicted x c l (ix1 q) = BitVec.ofNat 32 j.val := by
  have hd : ∀ k : Fin 1000, distances (unitRows x) (taken c l) (ix2 q k) = ((√(Numbers.gap X (C k)) : ℝ) : EReal) :=
    fun k => distances_apply x _ q X hx k (C k) fun e => (taken_apply c l hl k e).trans (hc k e)
  unfold predicted
  refine labelled_apply l hl _ q j (nearest_apply _ q (fun k => ?_) ?_)
  · rw [hd]; exact EReal.coe_lt_top _
  · simpa only [hd] using hj

end Cert.ReferenceIdeal.Hand

end
-- ==== Proof.Equal.lean ====
/-
  The two programs' results are equal: with finite queries and tables and the labels 0 to 999 in order, both give, at each
  query and for each table, the position of the first nearest row.
-/
module

public import proofs.«01_k».proof.Defs
public import proofs.«01_k».proof.Proof.KValue
public import proofs.«01_k».proof.Proof.RValue
public import proofs.«01_k».proof.Proof.Gen.Pre_finite_and_in_order
public import Idealize.ShloMosaic.Lib.Claim
public import Idealize.ShloMosaic.Adequacy
public import Idealize.ShloMosaic.Init

@[expose] public section

set_option maxRecDepth 16384

noncomputable section

namespace Cert.Equal

open Idealize.ShloMosaic Idealize.ShloMosaic.TcCoe Idealize.ShloMosaic.Tactic
open Idealize.SL Idealize.SL.Sem
open Cert.FirstLeast

/-! ## What the precondition says -/

/-- An extended real below infinity in absolute value is a real. -/
theorem real_of_lt (x : EReal) (h : max x (-x) < ⊤) : ∃ r : ℝ, x = (r : EReal) := by
  refine ⟨x.toReal, (EReal.coe_toReal (fun e => ?_) (fun e => ?_)).symm⟩ <;> subst e <;> simp at h

theorem one_iff (p : Prop) [Decidable p] : BitVec.ofBool (decide p) = 1#1 ↔ p := by
  by_cases h : p <;> simp [h]

section Pre

open Cert.Pre_finite_and_in_order

/-- A table that passes the test of finiteness has real entries. -/
theorem table_real (x : FVec Ideal S1000x1025 .f32)
    (h : cmpf .olt (Host.absf x) (broadcastInDim S1000x1025 ![] Gen.bcast_S_S1000x1025 (constant S_ .f32 0x7F800000#32)) = fun _ => 1#1) :
    ∃ C : Fin 1000 → Fin 1025 → ℝ, ∀ k e, x (ix2 k e) = (C k e : EReal) := by
  have (k : Fin 1000) (e : Fin 1025) : ∃ r : ℝ, x (ix2 k e) = (r : EReal) := by
    have h' := congrFun h (ix2 k e)
    pointwise at h'
    rw [one_iff, Cert.KernelIdeal.Hand.ofBits_top] at h'
    exact real_of_lt _ h'
  choose C hC using this
  exact ⟨C, hC⟩

/-- Queries that pass it have real entries. -/
theorem queries_real (x : FVec Ideal S16384x1024 .f32)
    (h : cmpf .olt (Host.absf x) (broadcastInDim S16384x1024 ![] Gen.bcast_S_S16384x1024 (constant S_ .f32 0x7F800000#32)) = fun _ => 1#1) :
    ∃ X : Fin 16384 → Fin 1024 → ℝ, ∀ q d, x (ix2 q d) = (X q d : EReal) := by
  have (q : Fin 16384) (d : Fin 1024) : ∃ r : ℝ, x (ix2 q d) = (r : EReal) := by
    have h' := congrFun h (ix2 q d)
    pointwise at h'
    rw [one_iff, Cert.KernelIdeal.Hand.ofBits_top] at h'
    exact real_of_lt _ h'
  choose X hX using this
  exact ⟨X, hX⟩

/-- Labels that pass the test of order are their positions. -/
theorem labels_eq (l : IVec S1000 32) (h : cmpi .eq l (iotaInDim S1000 32 0) = fun _ => 1#1) (k : Fin 1000) :
    l (ix1 k) = BitVec.ofNat 32 k.val := by
  have h' := congrFun h (ix1 k)
  simp only [cmpi, iotaInDim, IntOp.cmpi] at h'
  have e : (l (ix1 k) == BitVec.ofNat 32 k.val) = true := by
    cases hb : (l (ix1 k) == BitVec.ofNat 32 k.val)
    · exact absurd ((congrArg BitVec.ofBool hb).symm.trans h') (by decide)
    · rfl
  exact eq_of_beq e

end Pre

/-! ## The reference -/

section Reference

open Cert.ReferenceIdeal Cert.ReferenceIdeal.Hand

variable (m : (ℓ : Loc nD τ sig) → Buf (Elt Ideal) ℓ) (ρ : Dev nD → PrngReg)

/-- The reference runs, leaves its arguments, and ends with every counter at zero. -/
theorem reference_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h c main_arg0).trans (ops_keep (by decide) _), (h c main_arg1).trans (ops_keep (by decide) _),
      (h c main_arg2).trans (ops_keep (by decide) _), (h c main_arg3).trans (ops_keep (by decide) _),
      (h c main_arg4).trans (ops_keep (by decide) _)⟩, sem_eq_zero_of_no_sems (by decide) r.2⟩) (run m ρ)

/-- Its two results. -/
theorem reference_results : θ_run (defs (F := Ideal)) (onTc (τ := τ) (main (F := Ideal))) ⟨m, fun _ => 0, ρ⟩ (fun r => ∀ c : Dev nD,
      r.2.mem ((c.tc : Thread nD τ).loc main_v25)
          = predicted (F := Ideal) (m ((c.tc : Thread nD τ).loc main_arg0)) (m ((c.tc : Thread nD τ).loc main_arg1)) (m ((c.tc : Thread nD τ).loc main_arg3))
      ∧ r.2.mem ((c.tc : Thread nD τ).loc main_v46)
          = predicted (F := Ideal) (m ((c.tc : Thread nD τ).loc main_arg0)) (m ((c.tc : Thread nD τ).loc main_arg2)) (m ((c.tc : Thread nD τ).loc main_arg4))) :=
  (θ_run defs _ _).mono (fun r h c => ⟨(h c main_v25).trans (first_val _), (h c main_v46).trans (second_val _)⟩) (run m ρ)

end Reference

/-! ## The results are equal -/

open Cert.KernelIdeal.Hand in
/-- Under the precondition the kernel's results are the reference's. -/
theorem results_eq (m : (ℓ : Loc Cert.KernelIdeal.nD Cert.KernelIdeal.τ Cert.KernelIdeal.sig) → Buf (Elt Ideal) ℓ)
    (h : Cert.Pre_KernelIdeal_finite_and_in_order m) (c : Dev Cert.KernelIdeal.nD) :
    Cert.ReferenceIdeal.Hand.predicted (F := Ideal) (argX m c) (argA m c) (m ((c.tc : Thread Cert.KernelIdeal.nD Cert.KernelIdeal.τ).loc Cert.KernelIdeal.main_arg3)) = loOut m c
    ∧ Cert.ReferenceIdeal.Hand.predicted (F := Ideal) (argX m c) (argB m c) (m ((c.tc : Thread Cert.KernelIdeal.nD Cert.KernelIdeal.τ).loc Cert.KernelIdeal.main_arg4)) = hiOut m c := by
  obtain ⟨h0, h1, h2, h3, h4⟩ := h c
  obtain ⟨X, hX⟩ := queries_real _ h0
  obtain ⟨A, hA⟩ := table_real _ h1
  obtain ⟨B, hB⟩ := table_real _ h2
  have l3 := labels_eq _ h3
  have l4 := labels_eq _ h4
  have at_query (y : Cert.KernelIdeal.S16384.Idx) : ∃ q : Fin 16384, y = ix1 q := ⟨y 0, funext fun a => by
    match a with
    | 0 => rfl⟩
  constructor
  · funext y
    obtain ⟨q, rfl⟩ := at_query y
    obtain ⟨j, hj⟩ := exists_first (by decide : 0 < 1000) (fun k => ((√(Numbers.gap (X q) (A k)) : ℝ) : EReal))
    exact (Cert.ReferenceIdeal.Hand.predicted_apply _ _ _ l3 q (X q) (hX q) A hA hj).trans
      (loOut_apply m c q (X q) (hX q) A j hj hA).symm
  · funext y
    obtain ⟨q, rfl⟩ := at_query y
    obtain ⟨j, hj⟩ := exists_first (by decide : 0 < 1000) (fun k => ((√(Numbers.gap (X q) (B k)) : ℝ) : EReal))
    exact (Cert.ReferenceIdeal.Hand.predicted_apply _ _ _ l4 q (X q) (hX q) B hB hj).trans
      (hiOut_apply m c q (X q) (hX q) B j hj hB).symm

/-- The value claim. -/
theorem algebraic : Cert.algebraic_KernelIdeal_ReferenceIdeal_pre_finite_and_in_order := by
  intro m g m' g' hm hargs
  refine ⟨fun c => Cert.KernelIdeal.Hand.hiOut m c, fun c => Cert.KernelIdeal.Hand.loOut m c, ?_, ?_⟩
  · refine (θ_run _ _ _).mono (fun r h c => ?_)
      (θ_run_and (Cert.KernelIdeal.Hand.run_post m g) (Cert.KernelIdeal.Hand.frame_all m g))
    obtain ⟨⟨hpost, -⟩, hargs', -⟩ := h
    have hres := Cert.KernelIdeal.Hand.results m r hpost c
    exact ⟨hres.2, hres.1, hargs' c⟩
  · refine (θ_run _ _ _).mono (fun r h c => ?_)
      (θ_run_and (reference_results m' g') (reference_frame m' g'))
    obtain ⟨hres, hargs', -⟩ := h
    obtain ⟨e0, e1, e2, e3, e4⟩ := hargs c
    obtain ⟨lo, hi⟩ := results_eq m hm c
    refine ⟨(hres c).2.trans ?_, (hres c).1.trans ?_, hargs' c⟩
    · rw [e0, e2, e4]; exact hi
    · rw [e0, e1, e3]; exact lo

end Cert.Equal

end
-- ==== Proof.lean ====
/-
  The claims, put together: the two kernels' and the reference's runs, and the equality of the kernel's results with the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_in_order
public import proofs.«01_k».proof.Proof.PFrame
public import proofs.«01_k».proof.Proof.KFrame
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_and_in_order.Gen.facts,
    fun m g _ => Cert.Kernel.Hand.frame_all m g,
    fun m g _ => Cert.KernelIdeal.Hand.frame_all m g,
    fun m g _ => Cert.KernelIdeal.Hand.frame_all m g,
    fun m g _ => Cert.Equal.reference_frame m g,
    fun m g _ => Cert.Equal.reference_frame m g,
    trivial,
    Cert.Equal.algebraic⟩

end Cert.Proof

end
